-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_wa [hPre_finite_wa : Cert.Pre_finite_wa.Facts] (m : (ℓ : Loc Cert.KernelIdeal.nD Cert.KernelIdeal.τ Cert.KernelIdeal.sig) → Buf (Elt Ideal) ℓ) : Prop :=
  ∀ c : Dev Cert.KernelIdeal.nD,
    (Cert.Pre_finite_wa.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_wa [hPre_finite_wa : Cert.Pre_finite_wa.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_wa.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite_wa [hKernelIdeal : Cert.KernelIdeal.Facts] [hPre_finite_wa : Cert.Pre_finite_wa.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_wa m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite_wa [hReferenceIdeal : Cert.ReferenceIdeal.Facts] [hPre_finite_wa : Cert.Pre_finite_wa.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_wa m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_finite_wa [hKernelIdeal : Cert.KernelIdeal.Facts] [hReferenceIdeal : Cert.ReferenceIdeal.Facts] [hPre_finite_wa : Cert.Pre_finite_wa.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_wa m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_wa : Cert.Pre_finite_wa.Facts),
    quiescent_Kernel (hKernel := hKernel)
    ∧ quiescent_KernelIdeal (hKernelIdeal := hKernelIdeal)
    ∧ quiescent_KernelIdeal_pre_finite_wa (hKernelIdeal := hKernelIdeal) (hPre_finite_wa := hPre_finite_wa)
    ∧ quiescent_ReferenceIdeal (hReferenceIdeal := hReferenceIdeal)
    ∧ quiescent_ReferenceIdeal_pre_finite_wa (hReferenceIdeal := hReferenceIdeal) (hPre_finite_wa := hPre_finite_wa)
    ∧ preserves_Kernel_KernelIdeal
    ∧ algebraic_KernelIdeal_ReferenceIdeal_pre_finite_wa (hKernelIdeal := hKernelIdeal) (hReferenceIdeal := hReferenceIdeal) (hPre_finite_wa := hPre_finite_wa)
-- ==== Pre_finite_wa.lean ====
abbrev S4x2048x2048 : Shape := ⟨3, ![4, 2048, 2048]⟩
abbrev S2048x512 : Shape := ⟨2, ![2048, 512]⟩
abbrev S512 : Shape := ⟨1, ![512]⟩
abbrev S512x8 : Shape := ⟨2, ![512, 8]⟩
abbrev S8 : Shape := ⟨1, ![8]⟩
abbrev S8x2048x512 : Shape := ⟨3, ![8, 2048, 512]⟩
abbrev S8x512 : Shape := ⟨2, ![8, 512]⟩
abbrev S8x512x384 : Shape := ⟨3, ![8, 512, 384]⟩
abbrev S8x384x1 : Shape := ⟨3, ![8, 384, 1]⟩
abbrev S8x512x64 : Shape := ⟨3, ![8, 512, 64]⟩
abbrev S8x64 : Shape := ⟨2, ![8, 64]⟩
abbrev S8x64x10 : Shape := ⟨3, ![8, 64, 10]⟩
abbrev S8x10 : Shape := ⟨2, ![8, 10]⟩
abbrev S_ : Shape := ⟨0, ![]⟩

class Facts : Prop where
  bcast_S_S8x384x1 : S_.BroadcastsInDim S8x384x1 (![] : Fin 0 → Fin S8x384x1.rank)
  reducesTo_S8x384x1_S_d0_1_2 : S8x384x1.ReducesTo [0, 1, 2] S_
  h_S_ : 0 < S_.numel

variable [Facts]

def fn {F : FTy → Type} [FloatOps F] (main_arg0 : FVec F S4x2048x2048 .f32) (main_arg1 : FVec F S2048x512 .f32) (main_arg2 : FVec F S512 .f32) (main_arg3 : FVec F S512x8 .f32) (main_arg4 : FVec F S8 .f32) (main_arg5 : FVec F S8x2048x512 .f32) (main_arg6 : FVec F S8x512 .f32) (main_arg7 : FVec F S8x512x384 .f32) (main_arg8 : FVec F S8x512x384 .f32) (main_arg9 : FVec F S8x384x1 .f32) (main_arg10 : FVec F S8x512x64 .f32) (main_arg11 : FVec F S8x64 .f32) (main_arg12 : FVec F S8x64x10 .f32) (main_arg13 : FVec F S8x10 .f32) : IVec S_ 1 :=
  let main_cst : FVec F S_ .f32 := constant S_ .f32 0xFF800000#32
  let main_v0 : FVec F S8x384x1 .f32 := broadcastInDim S8x384x1 ![] bcast_S_S8x384x1 main_cst
  let main_v1 : IVec S8x384x1 1 := cmpf .ogt main_arg9 main_v0
  let main_cst_0 : FVec F S_ .f32 := constant S_ .f32 0x7F800000#32
  let main_v2 : FVec F S8x384x1 .f32 := broadcastInDim S8x384x1 ![] bcast_S_S8x384x1 main_cst_0
  let main_v3 : IVec S8x384x1 1 := cmpf .olt main_arg9 main_v2
  let main_v4 : IVec S8x384x1 1 := andi main_v1 main_v3
  let main_c : IVec S_ 1 := constantI S_ 1 1#1
  let main_v5 : IVec S_ 1 := (fun x v => Host.reduce IntOp.andi x v reducesTo_S8x384x1_S_d0_1_2 h_S_) main_v4 main_c
  main_v5
-- ==== Kernel.lean ====
abbrev S4x2048x2048 : Shape := ⟨3, ![4, 2048, 2048]⟩
abbrev S2048x512 : Shape := ⟨2, ![2048, 512]⟩
abbrev S512 : Shape := ⟨1, ![512]⟩
abbrev S512x8 : Shape := ⟨2, ![512, 8]⟩
abbrev S8 : Shape := ⟨1, ![8]⟩
abbrev S8x2048x512 : Shape := ⟨3, ![8, 2048, 512]⟩
abbrev S8x512 : Shape := ⟨2, ![8, 512]⟩
abbrev S8x512x384 : Shape := ⟨3, ![8, 512, 384]⟩
abbrev S8x384x1 : Shape := ⟨3, ![8, 384, 1]⟩
abbrev S8x512x64 : Shape := ⟨3, ![8, 512, 64]⟩
abbrev S8x64 : Shape := ⟨2, ![8, 64]⟩
abbrev S8x64x10 : Shape := ⟨3, ![8, 64, 10]⟩
abbrev S8x10 : Shape := ⟨2, ![8, 10]⟩
abbrev S1x2048x512 : Shape := ⟨3, ![1, 2048, 512]⟩
abbrev S2048x4608 : Shape := ⟨2, ![2048, 4608]⟩
abbrev S1x512 : Shape := ⟨2, ![1, 512]⟩
abbrev S4608 : Shape := ⟨1, ![4608]⟩
abbrev S1x4608 : Shape := ⟨2, ![1, 4608]⟩
abbrev S8x384 : Shape := ⟨2, ![8, 384]⟩
abbrev S4x64 : Shape := ⟨2, ![4, 64]⟩
abbrev S4x10 : Shape := ⟨2, ![4, 10]⟩
abbrev S4x8 : Shape := ⟨2, ![4, 8]⟩
abbrev S1x512x2048 : Shape := ⟨3, ![1, 512, 2048]⟩
abbrev S8x512x768 : Shape := ⟨3, ![8, 512, 768]⟩
abbrev S4x512 : Shape := ⟨2, ![4, 512]⟩
abbrev S32x512 : Shape := ⟨2, ![32, 512]⟩
abbrev S32x128 : Shape := ⟨2, ![32, 128]⟩
abbrev S1x512x384 : Shape := ⟨3, ![1, 512, 384]⟩
abbrev S512x384 : Shape := ⟨2, ![512, 384]⟩
abbrev S512x2048 : Shape := ⟨2, ![512, 2048]⟩
abbrev S512x4608 : Shape := ⟨2, ![512, 4608]⟩
abbrev S512x512 : Shape := ⟨2, ![512, 512]⟩
abbrev S1x512x768 : Shape := ⟨3, ![1, 512, 768]⟩
abbrev S512x768 : Shape := ⟨2, ![512, 768]⟩
abbrev S1x384 : Shape := ⟨2, ![1, 384]⟩
abbrev S384 : Shape := ⟨1, ![384]⟩
abbrev S512x1 : Shape := ⟨2, ![512, 1]⟩
abbrev S1x128 : Shape := ⟨2, ![1, 128]⟩
abbrev S1x512x1 : Shape := ⟨3, ![1, 512, 1]⟩
abbrev S1 : Shape := ⟨1, ![1]⟩
abbrev S1x1x1 : Shape := ⟨3, ![1, 1, 1]⟩
abbrev S1x8 : Shape := ⟨2, ![1, 8]⟩
abbrev S4 : Shape := ⟨1, ![4]⟩
abbrev S4x1 : Shape := ⟨2, ![4, 1]⟩
abbrev S32x1 : Shape := ⟨2, ![32, 1]⟩
abbrev S1x512x64 : Shape := ⟨3, ![1, 512, 64]⟩
abbrev S512x64 : Shape := ⟨2, ![512, 64]⟩
abbrev S1x64 : Shape := ⟨2, ![1, 64]⟩
abbrev S64 : Shape := ⟨1, ![64]⟩
abbrev S1x64x10 : Shape := ⟨3, ![1, 64, 10]⟩
abbrev S64x10 : Shape := ⟨2, ![64, 10]⟩
abbrev S1x10 : Shape := ⟨2, ![1, 10]⟩
abbrev S10 : Shape := ⟨1, ![10]⟩

abbrev nBuf : Space → Nat
  | .hbm => 54
  | .vmem => 20
  | .smem => 0
  | _ => 0

abbrev bufTy : (tb : Table) → Fin (tcTables nBuf tb) → BufTy
  | .hbm, ⟨0, _⟩ => ⟨S4x2048x2048, .f32⟩
  | .hbm, ⟨1, _⟩ => ⟨S2048x512, .f32⟩
  | .hbm, ⟨2, _⟩ => ⟨S512, .f32⟩
  | .hbm, ⟨3, _⟩ => ⟨S512x8, .f32⟩
  | .hbm, ⟨4, _⟩ => ⟨S8, .f32⟩
  | .hbm, ⟨5, _⟩ => ⟨S8x2048x512, .f32⟩
  | .hbm, ⟨6, _⟩ => ⟨S8x512, .f32⟩
  | .hbm, ⟨7, _⟩ => ⟨S8x512x384, .f32⟩
  | .hbm, ⟨8, _⟩ => ⟨S8x512x384, .f32⟩
  | .hbm, ⟨9, _⟩ => ⟨S8x384x1, .f32⟩
  | .hbm, ⟨10, _⟩ => ⟨S8x512x64, .f32⟩
  | .hbm, ⟨11, _⟩ => ⟨S8x64, .f32⟩
  | .hbm, ⟨12, _⟩ => ⟨S8x64x10, .f32⟩
  | .hbm, ⟨13, _⟩ => ⟨S8x10, .f32⟩
  | .hbm, ⟨14, _⟩ => ⟨S1x2048x512, .f32⟩
  | .hbm, ⟨15, _⟩ => ⟨S2048x512, .f32⟩
  | .hbm, ⟨16, _⟩ => ⟨S1x2048x512, .f32⟩
  | .hbm, ⟨17, _⟩ => ⟨S2048x512, .f32⟩
  | .hbm, ⟨18, _⟩ => ⟨S1x2048x512, .f32⟩
  | .hbm, ⟨19, _⟩ => ⟨S2048x512, .f32⟩
  | .hbm, ⟨20, _⟩ => ⟨S1x2048x512, .f32⟩
  | .hbm, ⟨21, _⟩ => ⟨S2048x512, .f32⟩
  | .hbm, ⟨22, _⟩ => ⟨S1x2048x512, .f32⟩
  | .hbm, ⟨23, _⟩ => ⟨S2048x512, .f32⟩
  | .hbm, ⟨24, _⟩ => ⟨S1x2048x512, .f32⟩
  | .hbm, ⟨25, _⟩ => ⟨S2048x512, .f32⟩
  | .hbm, ⟨26, _⟩ => ⟨S1x2048x512, .f32⟩
  | .hbm, ⟨27, _⟩ => ⟨S2048x512, .f32⟩
  | .hbm, ⟨28, _⟩ => ⟨S1x2048x512, .f32⟩
  | .hbm, ⟨29, _⟩ => ⟨S2048x512, .f32⟩
  | .hbm, ⟨30, _⟩ => ⟨S2048x4608, .f32⟩
  | .hbm, ⟨31, _⟩ => ⟨S2048x4608, .bf16⟩
  | .hbm, ⟨32, _⟩ => ⟨S1x512, .f32⟩
  | .hbm, ⟨33, _⟩ => ⟨S512, .f32⟩
  | .hbm, ⟨34, _⟩ => ⟨S1x512, .f32⟩
  | .hbm, ⟨35, _⟩ => ⟨S512, .f32⟩
  | .hbm, ⟨36, _⟩ => ⟨S1x512, .f32⟩
  | .hbm, ⟨37, _⟩ => ⟨S512, .f32⟩
  | .hbm, ⟨38, _⟩ => ⟨S1x512, .f32⟩
  | .hbm, ⟨39, _⟩ => ⟨S512, .f32⟩
  | .hbm, ⟨40, _⟩ => ⟨S1x512, .f32⟩
  | .hbm, ⟨41, _⟩ => ⟨S512, .f32⟩
  | .hbm, ⟨42, _⟩ => ⟨S1x512, .f32⟩
  | .hbm, ⟨43, _⟩ => ⟨S512, .f32⟩
  | .hbm, ⟨44, _⟩ => ⟨S1x512, .f32⟩
  | .hbm, ⟨45, _⟩ => ⟨S512, .f32⟩
  | .hbm, ⟨46, _⟩ => ⟨S1x512, .f32⟩
  | .hbm, ⟨47, _⟩ => ⟨S512, .f32⟩
  | .hbm, ⟨48, _⟩ => ⟨S4608, .f32⟩
  | .hbm, ⟨49, _⟩ => ⟨S1x4608, .f32⟩
  | .hbm, ⟨50, _⟩ => ⟨S8x384, .f32⟩
  | .hbm, ⟨51, _⟩ => ⟨S4x64, .f32⟩
  | .hbm, ⟨52, _⟩ => ⟨S4x10, .f32⟩
  | .hbm, ⟨53, _⟩ => ⟨S4x8, .f32⟩
  | .local _ .vmem, ⟨0, _⟩ => ⟨S1x512x2048, .f32⟩
  | .local _ .vmem, ⟨1, _⟩ => ⟨S1x512x2048, .f32⟩
  | .local _ .vmem, ⟨2, _⟩ => ⟨S2048x4608, .bf16⟩
  | .local _ .vmem, ⟨3, _⟩ => ⟨S1x4608, .f32⟩
  | .local _ .vmem, ⟨4, _⟩ => ⟨S8x512x384, .f32⟩
  | .local _ .vmem, ⟨5, _⟩ => ⟨S8x512x384, .f32⟩
  | .local _ .vmem, ⟨6, _⟩ => ⟨S8x384, .f32⟩
  | .local _ .vmem, ⟨7, _⟩ => ⟨S512x8, .f32⟩
  | .local _ .vmem, ⟨8, _⟩ => ⟨S8, .f32⟩
  | .local _ .vmem, ⟨9, _⟩ => ⟨S8x512x64, .f32⟩
  | .local _ .vmem, ⟨10, _⟩ => ⟨S8x64, .f32⟩
  | .local _ .vmem, ⟨11, _⟩ => ⟨S8x64x10, .f32⟩
  | .local _ .vmem, ⟨12, _⟩ => ⟨S8x10, .f32⟩
  | .local _ .vmem, ⟨13, _⟩ => ⟨S4x64, .f32⟩
  | .local _ .vmem, ⟨14, _⟩ => ⟨S4x10, .f32⟩
  | .local _ .vmem, ⟨15, _⟩ => ⟨S4x8, .f32⟩
  | .local _ .vmem, ⟨16, _⟩ => ⟨S8x512x768, .bf16⟩
  | .local _ .vmem, ⟨17, _⟩ => ⟨S4x512, .f32⟩
  | .local _ .vmem, ⟨18, _⟩ => ⟨S32x512, .f32⟩
  | .local _ .vmem, ⟨19, _⟩ => ⟨S32x128, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_v15 : Ref sig .tc := ⟨.hbm, 29, rfl⟩
abbrev main_call0_v16 : Ref sig .tc := ⟨.hbm, 30, rfl⟩
abbrev main_call0_v17 : Ref sig .tc := ⟨.hbm, 31, rfl⟩
abbrev main_call0_v18 : Ref sig .tc := ⟨.hbm, 32, rfl⟩
abbrev main_call0_v19 : Ref sig .tc := ⟨.hbm, 33, rfl⟩
abbrev main_call0_v20 : Ref sig .tc := ⟨.hbm, 34, rfl⟩
abbrev main_call0_v21 : Ref sig .tc := ⟨.hbm, 35, rfl⟩
abbrev main_call0_v22 : Ref sig .tc := ⟨.hbm, 36, rfl⟩
abbrev main_call0_v23 : Ref sig .tc := ⟨.hbm, 37, rfl⟩
abbrev main_call0_v24 : Ref sig .tc := ⟨.hbm, 38, rfl⟩
abbrev main_call0_v25 : Ref sig .tc := ⟨.hbm, 39, rfl⟩
abbrev main_call0_v26 : Ref sig .tc := ⟨.hbm, 40, rfl⟩
abbrev main_call0_v27 : Ref sig .tc := ⟨.hbm, 41, rfl⟩
abbrev main_call0_v28 : Ref sig .tc := ⟨.hbm, 42, rfl⟩
abbrev main_call0_v29 : Ref sig .tc := ⟨.hbm, 43, rfl⟩
abbrev main_call0_v30 : Ref sig .tc := ⟨.hbm, 44, rfl⟩
abbrev main_call0_v31 : Ref sig .tc := ⟨.hbm, 45, rfl⟩
abbrev main_call0_v32 : Ref sig .tc := ⟨.hbm, 46, rfl⟩
abbrev main_call0_v33 : Ref sig .tc := ⟨.hbm, 47, rfl⟩
abbrev main_call0_v34 : Ref sig .tc := ⟨.hbm, 48, rfl⟩
abbrev main_call0_v35 : Ref sig .tc := ⟨.hbm, 49, rfl⟩
abbrev main_call0_v36 : Ref sig .tc := ⟨.hbm, 50, rfl⟩
abbrev main_v0_0 : Ref sig .tc := ⟨.hbm, 51, rfl⟩
abbrev main_v0_1 : Ref sig .tc := ⟨.hbm, 52, rfl⟩
abbrev main_v0_2 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15

abbrev nD : Nat := 1
abbrev τ : Topo := Topo.v7x

variable {F : FTy → Type} [FloatOps F]

abbrev grid0 : Pipeline.Grid := ⟨2, ![4, 4], ![false, false]⟩

def k0_off1 (i : grid0.Coords) : Fin 2 → Nat :=
  let arg0 : BitVec 32 := BitVec.ofNat 32 (i 0).val
  let v18 : Index := Scalar.indexCast arg0
  let c0_9 : Index := 0#32
  ![v18.toNat, 0]
def k0_off2 (i : grid0.Coords) (c0_i32_19 : BitVec 32) : Fin 2 → Nat :=
  let arg0 : BitVec 32 := BitVec.ofNat 32 (i 0).val
  let v46 : BitVec 32 := Scalar.addi c0_i32_19 arg0
  let v47 : Index := Scalar.indexCast v46
  let c0_20 : Index := 0#32
  ![v47.toNat, 0]
def k0_off3 (i : grid0.Coords) (c0_i32_19 : BitVec 32) : Fin 2 → Nat :=
  let arg0 : BitVec 32 := BitVec.ofNat 32 (i 0).val
  let v46 : BitVec 32 := Scalar.addi c0_i32_19 arg0
  let v59 : Index := Scalar.indexCast v46
  let c0_23 : Index := 0#32
  ![v59.toNat, 0]
def k0_cond2 (i : grid0.Coords) : BitVec 1 :=
  let arg0 : BitVec 32 := BitVec.ofNat 32 (i 0).val
  let c3_i32 : BitVec 32 := 3#32
  let v365 : BitVec 1 := Scalar.cmpi .eq arg0 c3_i32
  let arg1 : BitVec 32 := BitVec.ofNat 32 (i 1).val
  let c3_i32_110 : BitVec 32 := 3#32
  let v366 : BitVec 1 := Scalar.cmpi .eq arg1 c3_i32_110
  let v367 : BitVec 1 := Scalar.andi v365 v366
  let v368 : BitVec 32 := Scalar.extui v367
  let c0_i32_111 : BitVec 32 := 0#32
  let v369 : BitVec 1 := Scalar.cmpi .ne v368 c0_i32_111
  v369

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x4608 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4608 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x512x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x512x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x512x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S8x64x10 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S8x10 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S4x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S4x10 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S4x8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== ReferenceIdeal.lean ====
abbrev S4x2048x2048 : Shape := ⟨3, ![4, 2048, 2048]⟩
abbrev S2048x512 : Shape := ⟨2, ![2048, 512]⟩
abbrev S512 : Shape := ⟨1, ![512]⟩
abbrev S512x8 : Shape := ⟨2, ![512, 8]⟩
abbrev S8 : Shape := ⟨1, ![8]⟩
abbrev S8x2048x512 : Shape := ⟨3, ![8, 2048, 512]⟩
abbrev S8x512 : Shape := ⟨2, ![8, 512]⟩
abbrev S8x512x384 : Shape := ⟨3, ![8, 512, 384]⟩
abbrev S8x384x1 : Shape := ⟨3, ![8, 384, 1]⟩
abbrev S8x512x64 : Shape := ⟨3, ![8, 512, 64]⟩
abbrev S8x64 : Shape := ⟨2, ![8, 64]⟩
abbrev S8x64x10 : Shape := ⟨3, ![8, 64, 10]⟩
abbrev S8x10 : Shape := ⟨2, ![8, 10]⟩
abbrev S4x2048x512 : Shape := ⟨3, ![4, 2048, 512]⟩
abbrev S1x1x512 : Shape := ⟨3, ![1, 1, 512]⟩
abbrev S_ : Shape := ⟨0, ![]⟩
abbrev S4x512 : Shape := ⟨2, ![4, 512]⟩
abbrev S4x8 : Shape := ⟨2, ![4, 8]⟩
abbrev S1x8 : Shape := ⟨2, ![1, 8]⟩
abbrev S4 : Shape := ⟨1, ![4]⟩
abbrev S4x1 : Shape := ⟨2, ![4, 1]⟩
abbrev S4x2048x8x512 : Shape := ⟨4, ![4, 2048, 8, 512]⟩
abbrev S8x1x1x512 : Shape := ⟨4, ![8, 1, 1, 512]⟩
abbrev S8x4x2048x512 : Shape := ⟨4, ![8, 4, 2048, 512]⟩
abbrev S8x4x2048x384 : Shape := ⟨4, ![8, 4, 2048, 384]⟩
abbrev S8x4x2048x1 : Shape := ⟨4, ![8, 4, 2048, 1]⟩
abbrev S8x4x2048 : Shape := ⟨3, ![8, 4, 2048]⟩
abbrev S8x4 : Shape := ⟨2, ![8, 4]⟩
abbrev S8x4x1 : Shape := ⟨3, ![8, 4, 1]⟩
abbrev S8x4x512 : Shape := ⟨3, ![8, 4, 512]⟩
abbrev S8x4x64 : Shape := ⟨3, ![8, 4, 64]⟩
abbrev S8x1x64 : Shape := ⟨3, ![8, 1, 64]⟩
abbrev S8x4x10 : Shape := ⟨3, ![8, 4, 10]⟩
abbrev S8x1x10 : Shape := ⟨3, ![8, 1, 10]⟩
abbrev S4x8x64 : Shape := ⟨3, ![4, 8, 64]⟩
abbrev S4x8x10 : Shape := ⟨3, ![4, 8, 10]⟩
abbrev S4x8x1 : Shape := ⟨3, ![4, 8, 1]⟩
abbrev S4x64 : Shape := ⟨2, ![4, 64]⟩
abbrev S4x10 : Shape := ⟨2, ![4, 10]⟩

abbrev nBuf : Space → Nat
  | .hbm => 106
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x512, .f32⟩
  | .hbm, ⟨2, _⟩ => ⟨S512, .f32⟩
  | .hbm, ⟨3, _⟩ => ⟨S512x8, .f32⟩
  | .hbm, ⟨4, _⟩ => ⟨S8, .f32⟩
  | .hbm, ⟨5, _⟩ => ⟨S8x2048x512, .f32⟩
  | .hbm, ⟨6, _⟩ => ⟨S8x512, .f32⟩
  | .hbm, ⟨7, _⟩ => ⟨S8x512x384, .f32⟩
  | .hbm, ⟨8, _⟩ => ⟨S8x512x384, .f32⟩
  | .hbm, ⟨9, _⟩ => ⟨S8x384x1, .f32⟩
  | .hbm, ⟨10, _⟩ => ⟨S8x512x64, .f32⟩
  | .hbm, ⟨11, _⟩ => ⟨S8x64, .f32⟩
  | .hbm, ⟨12, _⟩ => ⟨S8x64x10, .f32⟩
  | .hbm, ⟨13, _⟩ => ⟨S8x10, .f32⟩
  | .hbm, ⟨14, _⟩ => ⟨S4x2048x512, .f32⟩
  | .hbm, ⟨15, _⟩ => ⟨S1x1x512, .f32⟩
  | .hbm, ⟨16, _⟩ => ⟨S4x2048x512, .f32⟩
  | .hbm, ⟨17, _⟩ => ⟨S4x2048x512, .f32⟩
  | .hbm, ⟨18, _⟩ => ⟨S_, .f32⟩
  | .hbm, ⟨19, _⟩ => ⟨S4x2048x512, .f32⟩
  | .hbm, ⟨20, _⟩ => ⟨S4x2048x512, .f32⟩
  | .hbm, ⟨21, _⟩ => ⟨S_, .f32⟩
  | .hbm, ⟨22, _⟩ => ⟨S4x512, .f32⟩
  | .hbm, ⟨23, _⟩ => ⟨S_, .f32⟩
  | .hbm, ⟨24, _⟩ => ⟨S4x512, .f32⟩
  | .hbm, ⟨25, _⟩ => ⟨S4x512, .f32⟩
  | .hbm, ⟨26, _⟩ => ⟨S4x8, .f32⟩
  | .hbm, ⟨27, _⟩ => ⟨S1x8, .f32⟩
  | .hbm, ⟨28, _⟩ => ⟨S4x8, .f32⟩
  | .hbm, ⟨29, _⟩ => ⟨S4x8, .f32⟩
  | .hbm, ⟨30, _⟩ => ⟨S_, .f32⟩
  | .hbm, ⟨31, _⟩ => ⟨S4x8, .f32⟩
  | .hbm, ⟨32, _⟩ => ⟨S4x8, .f32⟩
  | .hbm, ⟨33, _⟩ => ⟨S_, .f32⟩
  | .hbm, ⟨34, _⟩ => ⟨S4, .f32⟩
  | .hbm, ⟨35, _⟩ => ⟨S_, .f32⟩
  | .hbm, ⟨36, _⟩ => ⟨S4, .f32⟩
  | .hbm, ⟨37, _⟩ => ⟨S4, .f32⟩
  | .hbm, ⟨38, _⟩ => ⟨S4x1, .f32⟩
  | .hbm, ⟨39, _⟩ => ⟨S4x8, .f32⟩
  | .hbm, ⟨40, _⟩ => ⟨S4x8, .f32⟩
  | .hbm, ⟨41, _⟩ => ⟨S4x8, .f32⟩
  | .hbm, ⟨42, _⟩ => ⟨S_, .f32⟩
  | .hbm, ⟨43, _⟩ => ⟨S4, .f32⟩
  | .hbm, ⟨44, _⟩ => ⟨S4x1, .f32⟩
  | .hbm, ⟨45, _⟩ => ⟨S4x8, .f32⟩
  | .hbm, ⟨46, _⟩ => ⟨S4x8, .f32⟩
  | .hbm, ⟨47, _⟩ => ⟨S4x2048x8x512, .f32⟩
  | .hbm, ⟨48, _⟩ => ⟨S8x1x1x512, .f32⟩
  | .hbm, ⟨49, _⟩ => ⟨S8x4x2048x512, .f32⟩
  | .hbm, ⟨50, _⟩ => ⟨S8x4x2048x512, .f32⟩
  | .hbm, ⟨51, _⟩ => ⟨S8x4x2048x512, .f32⟩
  | .hbm, ⟨52, _⟩ => ⟨S_, .f32⟩
  | .hbm, ⟨53, _⟩ => ⟨S8x4x2048x512, .f32⟩
  | .hbm, ⟨54, _⟩ => ⟨S8x4x2048x512, .f32⟩
  | .hbm, ⟨55, _⟩ => ⟨S8x4x2048x384, .f32⟩
  | .hbm, ⟨56, _⟩ => ⟨S8x4x2048x384, .f32⟩
  | .hbm, ⟨57, _⟩ => ⟨S8x4x2048x384, .f32⟩
  | .hbm, ⟨58, _⟩ => ⟨S8x4x2048x384, .f32⟩
  | .hbm, ⟨59, _⟩ => ⟨S8x4x2048x384, .f32⟩
  | .hbm, ⟨60, _⟩ => ⟨S_, .f32⟩
  | .hbm, ⟨61, _⟩ => ⟨S8x4x2048x384, .f32⟩
  | .hbm, ⟨62, _⟩ => ⟨S8x4x2048x384, .f32⟩
  | .hbm, ⟨63, _⟩ => ⟨S_, .f32⟩
  | .hbm, ⟨64, _⟩ => ⟨S8x4x2048x384, .f32⟩
  | .hbm, ⟨65, _⟩ => ⟨S8x4x2048x384, .f32⟩
  | .hbm, ⟨66, _⟩ => ⟨S8x4x2048x384, .f32⟩
  | .hbm, ⟨67, _⟩ => ⟨S8x4x2048x1, .f32⟩
  | .hbm, ⟨68, _⟩ => ⟨S8x4x2048, .f32⟩
  | .hbm, ⟨69, _⟩ => ⟨S_, .f32⟩
  | .hbm, ⟨70, _⟩ => ⟨S8x4, .f32⟩
  | .hbm, ⟨71, _⟩ => ⟨S_, .f32⟩
  | .hbm, ⟨72, _⟩ => ⟨S8x4, .f32⟩
  | .hbm, ⟨73, _⟩ => ⟨S8x4, .f32⟩
  | .hbm, ⟨74, _⟩ => ⟨S8x4x1, .f32⟩
  | .hbm, ⟨75, _⟩ => ⟨S8x4x2048, .f32⟩
  | .hbm, ⟨76, _⟩ => ⟨S8x4x2048, .f32⟩
  | .hbm, ⟨77, _⟩ => ⟨S8x4x2048, .f32⟩
  | .hbm, ⟨78, _⟩ => ⟨S_, .f32⟩
  | .hbm, ⟨79, _⟩ => ⟨S8x4, .f32⟩
  | .hbm, ⟨80, _⟩ => ⟨S8x4x1, .f32⟩
  | .hbm, ⟨81, _⟩ => ⟨S8x4x2048, .f32⟩
  | .hbm, ⟨82, _⟩ => ⟨S8x4x2048, .f32⟩
  | .hbm, ⟨83, _⟩ => ⟨S8x4x512, .f32⟩
  | .hbm, ⟨84, _⟩ => ⟨S8x4x64, .f32⟩
  | .hbm, ⟨85, _⟩ => ⟨S8x1x64, .f32⟩
  | .hbm, ⟨86, _⟩ => ⟨S8x4x64, .f32⟩
  | .hbm, ⟨87, _⟩ => ⟨S8x4x64, .f32⟩
  | .hbm, ⟨88, _⟩ => ⟨S_, .f32⟩
  | .hbm, ⟨89, _⟩ => ⟨S8x4x64, .f32⟩
  | .hbm, ⟨90, _⟩ => ⟨S8x4x64, .f32⟩
  | .hbm, ⟨91, _⟩ => ⟨S8x4x10, .f32⟩
  | .hbm, ⟨92, _⟩ => ⟨S8x1x10, .f32⟩
  | .hbm, ⟨93, _⟩ => ⟨S8x4x10, .f32⟩
  | .hbm, ⟨94, _⟩ => ⟨S8x4x10, .f32⟩
  | .hbm, ⟨95, _⟩ => ⟨S4x8x64, .f32⟩
  | .hbm, ⟨96, _⟩ => ⟨S4x8x10, .f32⟩
  | .hbm, ⟨97, _⟩ => ⟨S4x8x1, .f32⟩
  | .hbm, ⟨98, _⟩ => ⟨S4x8x64, .f32⟩
  | .hbm, ⟨99, _⟩ => ⟨S4x8x64, .f32⟩
  | .hbm, ⟨100, _⟩ => ⟨S_, .f32⟩
  | .hbm, ⟨101, _⟩ => ⟨S4x64, .f32⟩
  | .hbm, ⟨102, _⟩ => ⟨S4x8x10, .f32⟩
  | .hbm, ⟨103, _⟩ => ⟨S4x8x10, .f32⟩
  | .hbm, ⟨104, _⟩ => ⟨S_, .f32⟩
  | .hbm, ⟨105, _⟩ => ⟨S4x10, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_cst : Ref sig .tc := ⟨.hbm, 18, rfl⟩
abbrev main_call0_v0 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_cst_3 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_call1_cst : Ref sig .tc := ⟨.hbm, 52, rfl⟩
abbrev main_call1_v0 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_5 : Ref sig .tc := ⟨.hbm, 60, rfl⟩
abbrev main_v36 : Ref sig .tc := ⟨.hbm, 61, rfl⟩
abbrev main_v37 : Ref sig .tc := ⟨.hbm, 62, rfl⟩
abbrev main_cst_6 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_7 : Ref sig .tc := ⟨.hbm, 69, rfl⟩
abbrev main_v43 : Ref sig .tc := ⟨.hbm, 70, rfl⟩
abbrev main_cst_8 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_9 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_call2_cst : Ref sig .tc := ⟨.hbm, 88, rfl⟩
abbrev main_call2_v0 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_10 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_11 : Ref sig .tc := ⟨.hbm, 104, rfl⟩
abbrev main_v72 : Ref sig .tc := ⟨.hbm, 105, rfl⟩

abbrev nD : Nat := 1
abbrev τ : Topo := Topo.v7x

variable {F : FTy → Type} [FloatOps F]
-- ==== Proof.Run.lean ====
module

public import proofs.«01_k».proof.Proof.Gen.KernelIdeal
public import proofs.«01_k».proof.Proof.Gen.KernelIdeal.Skeleton
public import Idealize.ShloMosaic.Lib.Pipeline.Frame
public import Idealize.ShloMosaic.Lib.Tactic

/-!
# The body, run once

The launch runs the body at sixteen grid points. It takes one of three courses: at the first
point it also fills the scratch buffers, at the last one it also writes the three results, and
at the others it only adds its block to the running sums. Each course is run here from any
buffer contents; what it leaves in the buffers it writes is found by the run.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig Unit (Elt F) ℕ (UR sig nD τ) ℕ

/-- The contents of a memory reference's buffer. -/
abbrev Bf (c : Dev nD) {sp : Space} {S : Shape} {e : EltTy} (M : Memref sig .tc sp S e) : Type :=
  Buf (Elt F) (M.view.loc (c : Thread nD τ))

/-- The buffer under a memory reference, owned whole, holds `f`. -/
abbrev pt (c : Dev nD) {sp : Space} {S : Shape} {e : EltTy} (M : Memref sig .tc sp S e)
    (f : Bf (F := F) c M) : sProp 𝕄 :=
  M.view.loc (c : Thread nD τ) ↦{fullShare} f

/-- The body's first test: is this the first grid point? -/
abbrev first (i : grid0.Coords) : Prop :=
  Scalar.cmpi .ne (Scalar.extui (Scalar.andi (Scalar.cmpi .eq (BitVec.ofNat 32 (i 0).val) 0#32) (Scalar.cmpi .eq (BitVec.ofNat 32 (i 1).val) 0#32)) : BitVec 32) 0#32 = 1#1

/-- The body's second test: is this the last grid point? -/
abbrev last (i : grid0.Coords) : Prop := k0_cond2 i = 1#1

/-- The body, at grid point `i`, takes the contents `f2 … f20` of its nineteen buffers (twelve
inputs, three results, four scratch) to `g2 … g20`. -/
abbrev BodyRun (c : Dev nD) (i : grid0.Coords)
  (M2 : Memref sig .tc .vmem S1x512x2048 .f32) (h2 : M2.IsWhole)
  (M3 : Memref sig .tc .vmem S2048x4608 .bf16) (h3 : M3.IsWhole)
  (M4 : Memref sig .tc .vmem S1x4608 .f32) (h4 : M4.IsWhole)
  (M5 : Memref sig .tc .vmem S8x512x384 .f32) (h5 : M5.IsWhole)
  (M6 : Memref sig .tc .vmem S8x512x384 .f32) (h6 : M6.IsWhole)
  (M7 : Memref sig .tc .vmem S8x384 .f32) (h7 : M7.IsWhole)
  (M8 : Memref sig .tc .vmem S512x8 .f32) (h8 : M8.IsWhole)
  (M9 : Memref sig .tc .vmem S8 .f32) (h9 : M9.IsWhole)
  (M10 : Memref sig .tc .vmem S8x512x64 .f32) (h10 : M10.IsWhole)
  (M11 : Memref sig .tc .vmem S8x64 .f32) (h11 : M11.IsWhole)
  (M12 : Memref sig .tc .vmem S8x64x10 .f32) (h12 : M12.IsWhole)
  (M13 : Memref sig .tc .vmem S8x10 .f32) (h13 : M13.IsWhole)
  (M14 : Memref sig .tc .vmem S4x64 .f32) (h14 : M14.IsWhole)
  (M15 : Memref sig .tc .vmem S4x10 .f32) (h15 : M15.IsWhole)
  (M16 : Memref sig .tc .vmem S4x8 .f32) (h16 : M16.IsWhole)
  (M17 : Memref sig .tc .vmem S8x512x768 .bf16) (h17 : M17.IsWhole)
  (M18 : Memref sig .tc .vmem S4x512 .f32) (h18 : M18.IsWhole)
  (M19 : Memref sig .tc .vmem S32x512 .f32) (h19 : M19.IsWhole)
  (M20 : Memref sig .tc .vmem S32x128 .f32) (h20 : M20.IsWhole)
  (f2 : Bf (F := F) c M2) (f3 : Bf (F := F) c M3) (f4 : Bf (F := F) c M4)
  (f5 : Bf (F := F) c M5) (f6 : Bf (F := F) c M6) (f7 : Bf (F := F) c M7)
  (f8 : Bf (F := F) c M8) (f9 : Bf (F := F) c M9) (f10 : Bf (F := F) c M10)
  (f11 : Bf (F := F) c M11) (f12 : Bf (F := F) c M12) (f13 : Bf (F := F) c M13)
  (f14 : Bf (F := F) c M14) (f15 : Bf (F := F) c M15) (f16 : Bf (F := F) c M16)
  (f17 : Bf (F := F) c M17) (f18 : Bf (F := F) c M18) (f19 : Bf (F := F) c M19)
  (f20 : Bf (F := F) c M20)
  (g2 : Bf (F := F) c M2) (g3 : Bf (F := F) c M3) (g4 : Bf (F := F) c M4)
  (g5 : Bf (F := F) c M5) (g6 : Bf (F := F) c M6) (g7 : Bf (F := F) c M7)
  (g8 : Bf (F := F) c M8) (g9 : Bf (F := F) c M9) (g10 : Bf (F := F) c M10)
  (g11 : Bf (F := F) c M11) (g12 : Bf (F := F) c M12) (g13 : Bf (F := F) c M13)
  (g14 : Bf (F := F) c M14) (g15 : Bf (F := F) c M15) (g16 : Bf (F := F) c M16)
  (g17 : Bf (F := F) c M17) (g18 : Bf (F := F) c M18) (g19 : Bf (F := F) c M19)
  (g20 : Bf (F := F) c M20) : Prop :=
  ∀ (E : Set ℕ) (Q : PUnit → sProp 𝕄),
    iprop(
      pt c M2 f2 ∗ pt c M3 f3 ∗ pt c M4 f4 ∗ pt c M5 f5 ∗ pt c M6 f6 ∗ pt c M7 f7 ∗
      pt c M8 f8 ∗ pt c M9 f9 ∗ pt c M10 f10 ∗ pt c M11 f11 ∗ pt c M12 f12 ∗ pt c M13 f13 ∗
      pt c M14 f14 ∗ pt c M15 f15 ∗ pt c M16 f16 ∗ pt c M17 f17 ∗ pt c M18 f18 ∗ pt c M19 f19 ∗
      pt c M20 f20
      ∗ (iprop(
        pt c M2 g2 ∗ pt c M3 g3 ∗ pt c M4 g4 ∗ pt c M5 g5 ∗ pt c M6 g6 ∗ pt c M7 g7 ∗
        pt c M8 g8 ∗ pt c M9 g9 ∗ pt c M10 g10 ∗ pt c M11 g11 ∗ pt c M12 g12 ∗ pt c M13 g13 ∗
        pt c M14 g14 ∗ pt c M15 g15 ∗ pt c M16 g16 ∗ pt c M17 g17 ∗ pt c M18 g18 ∗
        pt c M19 g19 ∗ pt c M20 g20) -∗ Q ⟨⟩))
    ⊢ wp frame (wpE (defs₀ (F := F)) Variants.none c none) E
        (cc0__moa_body i
          M2 h2 M3 h3 M4 h4 M5 h5 M6 h6 M7 h7 M8 h8 M9 h9 M10 h10 M11 h11 M12 h12 M13 h13
          M14 h14 M15 h15 M16 h16 M17 h17 M18 h18 M19 h19 M20 h20) Q

variable (c : Dev nD) (i : grid0.Coords)
  (M2 : Memref sig .tc .vmem S1x512x2048 .f32) (h2 : M2.IsWhole)
  (M3 : Memref sig .tc .vmem S2048x4608 .bf16) (h3 : M3.IsWhole)
  (M4 : Memref sig .tc .vmem S1x4608 .f32) (h4 : M4.IsWhole)
  (M5 : Memref sig .tc .vmem S8x512x384 .f32) (h5 : M5.IsWhole)
  (M6 : Memref sig .tc .vmem S8x512x384 .f32) (h6 : M6.IsWhole)
  (M7 : Memref sig .tc .vmem S8x384 .f32) (h7 : M7.IsWhole)
  (M8 : Memref sig .tc .vmem S512x8 .f32) (h8 : M8.IsWhole)
  (M9 : Memref sig .tc .vmem S8 .f32) (h9 : M9.IsWhole)
  (M10 : Memref sig .tc .vmem S8x512x64 .f32) (h10 : M10.IsWhole)
  (M11 : Memref sig .tc .vmem S8x64 .f32) (h11 : M11.IsWhole)
  (M12 : Memref sig .tc .vmem S8x64x10 .f32) (h12 : M12.IsWhole)
  (M13 : Memref sig .tc .vmem S8x10 .f32) (h13 : M13.IsWhole)
  (M14 : Memref sig .tc .vmem S4x64 .f32) (h14 : M14.IsWhole)
  (M15 : Memref sig .tc .vmem S4x10 .f32) (h15 : M15.IsWhole)
  (M16 : Memref sig .tc .vmem S4x8 .f32) (h16 : M16.IsWhole)
  (M17 : Memref sig .tc .vmem S8x512x768 .bf16) (h17 : M17.IsWhole)
  (M18 : Memref sig .tc .vmem S4x512 .f32) (h18 : M18.IsWhole)
  (M19 : Memref sig .tc .vmem S32x512 .f32) (h19 : M19.IsWhole)
  (M20 : Memref sig .tc .vmem S32x128 .f32) (h20 : M20.IsWhole)
  (f2 : Bf (F := F) c M2) (f3 : Bf (F := F) c M3) (f4 : Bf (F := F) c M4)
  (f5 : Bf (F := F) c M5) (f6 : Bf (F := F) c M6) (f7 : Bf (F := F) c M7)
  (f8 : Bf (F := F) c M8) (f9 : Bf (F := F) c M9) (f10 : Bf (F := F) c M10)
  (f11 : Bf (F := F) c M11) (f12 : Bf (F := F) c M12) (f13 : Bf (F := F) c M13)
  (f14 : Bf (F := F) c M14) (f15 : Bf (F := F) c M15) (f16 : Bf (F := F) c M16)
  (f17 : Bf (F := F) c M17) (f18 : Bf (F := F) c M18) (f19 : Bf (F := F) c M19)
  (f20 : Bf (F := F) c M20)

/-- The first grid point: fill the scratch buffers, then add the block. -/
def runA (hc1 : first i) (hc2 : ¬ last i) :
    { W : Bf (F := F) c M17 × Bf (F := F) c M18 × Bf (F := F) c M19 × Bf (F := F) c M20 //
      BodyRun c i
        M2 h2 M3 h3 M4 h4 M5 h5 M6 h6 M7 h7 M8 h8 M9 h9 M10 h10 M11 h11 M12 h12 M13 h13 M14 h14
        M15 h15 M16 h16 M17 h17 M18 h18 M19 h19 M20 h20
        f2 f3 f4 f5 f6 f7 f8 f9 f10 f11 f12 f13 f14 f15 f16 f17 f18 f19 f20
        f2 f3 f4 f5 f6 f7 f8 f9 f10 f11 f12 f13 f14 f15 f16 W.1 W.2.1 W.2.2.1 W.2.2.2 } := by
  refine ⟨⟨?_, ?_, ?_, ?_⟩, fun E Q => ?run⟩
  case run =>
    iintro ⟨
      H2, H3, H4, H5, H6, H7, H8, H9, H10, H11, H12, H13, H14, H15, H16, H17, H18, H19, H20, Hk⟩
    simp only [cc0__moa_body_eq_skeleton]; unfold cc0__moa_body_skel
    sl_exec
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20

/-- A point between: add the block to the running sums. -/
def runB (hc1 : ¬ first i) (hc2 : ¬ last i) :
    { W : Bf (F := F) c M18 × Bf (F := F) c M19 × Bf (F := F) c M20 //
      BodyRun c i
        M2 h2 M3 h3 M4 h4 M5 h5 M6 h6 M7 h7 M8 h8 M9 h9 M10 h10 M11 h11 M12 h12 M13 h13 M14 h14
        M15 h15 M16 h16 M17 h17 M18 h18 M19 h19 M20 h20
        f2 f3 f4 f5 f6 f7 f8 f9 f10 f11 f12 f13 f14 f15 f16 f17 f18 f19 f20
        f2 f3 f4 f5 f6 f7 f8 f9 f10 f11 f12 f13 f14 f15 f16 f17 W.1 W.2.1 W.2.2 } := by
  refine ⟨⟨?_, ?_, ?_⟩, fun E Q => ?run⟩
  case run =>
    iintro ⟨
      H2, H3, H4, H5, H6, H7, H8, H9, H10, H11, H12, H13, H14, H15, H16, H17, H18, H19, H20, Hk⟩
    simp only [cc0__moa_body_eq_skeleton]; unfold cc0__moa_body_skel
    sl_exec
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20

/-- The last grid point: add the block, then write the results. -/
def runC (hc1 : ¬ first i) (hc2 : last i) :
    { W : Bf (F := F) c M14 × Bf (F := F) c M15 × Bf (F := F) c M16 × Bf (F := F) c M18 × Bf (F := F) c M19 × Bf (F := F) c M20 //
      BodyRun c i
        M2 h2 M3 h3 M4 h4 M5 h5 M6 h6 M7 h7 M8 h8 M9 h9 M10 h10 M11 h11 M12 h12 M13 h13 M14 h14
        M15 h15 M16 h16 M17 h17 M18 h18 M19 h19 M20 h20
        f2 f3 f4 f5 f6 f7 f8 f9 f10 f11 f12 f13 f14 f15 f16 f17 f18 f19 f20
        f2 f3 f4 f5 f6 f7 f8 f9 f10 f11 f12 f13 W.1 W.2.1 W.2.2.1 f17 W.2.2.2.1 W.2.2.2.2.1
        W.2.2.2.2.2 } := by
  refine ⟨⟨?_, ?_, ?_, ?_, ?_, ?_⟩, fun E Q => ?run⟩
  case run =>
    iintro ⟨
      H2, H3, H4, H5, H6, H7, H8, H9, H10, H11, H12, H13, H14, H15, H16, H17, H18, H19, H20, Hk⟩
    simp only [cc0__moa_body_eq_skeleton]; unfold cc0__moa_body_skel
    sl_exec
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20

end Cert.KernelIdeal.Hand

end
-- ==== Proof.Block.lean ====
module

public import proofs.«01_k».proof.Proof.Run
public import Idealize.ShloMosaic.Lib.WritesUnit
public import Idealize.ShloMosaic.Lib.VecWindow
public import Idealize.ShloMosaic.Lib.ValueIdx

/-!
# What one grid point computes

The kernel spells its eight experts out one after another. Here each quantity is one function of
the expert's number: the weights of a block, the row that is added to the running sums, the
latent vector and the head of the last point. The scratch buffers' contents are a state that the
grid points step.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F]

/-! ## Windows that an expert's number places -/

theorem slices_hid : ∀ e : Fin 8, S512x4608.Slices ![0, 512 * (e.val + 1)] S512x512 := by decide
theorem slices_pool : ∀ e : Fin 8, S32x512.Slices ![4 * e.val, 0] S4x512 := by decide
theorem slices_gate : ∀ e : Fin 8, S4x8.Slices ![0, e.val] S4x1 := by decide
theorem inb_va : ∀ (e : Fin 8) (a), (![e.val, 0, 0] : Fin 3 → ℕ) a + S1x512x768.size a ≤ S8x512x768.size a := by decide
theorem inb_wa : ∀ (e : Fin 8) (a), (![e.val, 0] : Fin 2 → ℕ) a + S1x384.size a ≤ S8x384.size a := by decide
theorem inb_va3 : ∀ (e : Fin 8) (a), (![e.val, 0, 0] : Fin 3 → ℕ) a + S1x512x384.size a ≤ S8x512x384.size a := by decide
theorem inb_w2 : ∀ (e : Fin 8) (a), (![e.val, 0, 0] : Fin 3 → ℕ) a + S1x512x64.size a ≤ S8x512x64.size a := by decide
theorem inb_b2 : ∀ (e : Fin 8) (a), (![e.val, 0] : Fin 2 → ℕ) a + S1x64.size a ≤ S8x64.size a := by decide
theorem inb_wh : ∀ (e : Fin 8) (a), (![e.val, 0, 0] : Fin 3 → ℕ) a + S1x64x10.size a ≤ S8x64x10.size a := by decide
theorem inb_bh : ∀ (e : Fin 8) (a), (![e.val, 0] : Fin 2 → ℕ) a + S1x10.size a ≤ S8x10.size a := by decide

/-! ## One block -/

/-- Expert `e`'s hidden features of a block: its columns of all the hidden features. -/
def hidOf (H : FVec F S512x4608 .bf16) (e : Fin 8) : FVec F S512x512 .bf16 :=
  extractStridedSlice S512x512 ![0, 512 * (e.val + 1)] H (slices_hid e)

/-- The gated activations of expert `e`'s features, for the two projections side by side in `va`. -/
def gatedOf (h : FVec F S512x512 .bf16) (va : Vec F S1x512x768 .bf16) : FVec F S512x384 .f32 :=
  have tu : FVec F S512x768 .f32 := matmul dot_S512x512_S512x768_S512x768_1_0_0_1_n_n none h
    (shapeCast S512x768 va shapeCasts_S1x512x768_S512x768) (constant S512x768 .f32 0x00000000#32)
  mulf (tanh (extractStridedSlice S512x384 ![0, 0] tu slices_S512x768_o0_0_S512x384))
    (logistic (extractStridedSlice S512x384 ![0, 384] tu slices_S512x768_o0_384_S512x384))

/-- The weights of a block's rows for expert `e`: the exponentials of their scores. -/
def wtsOf (H : FVec F S512x4608 .bf16) (vaub : Vec F S8x512x768 .bf16) (wa : Vec F S8x384 .f32) (e : Fin 8) :
    FVec F S512x1 .f32 :=
  k0_pay70 (gatedOf (hidOf H e) (VecWindow.window vaub ![e.val, 0, 0] S1x512x768.size (inb_va e)))
    (VecWindow.window wa ![e.val, 0] S1x384.size (inb_wa e))

/-- A row of the weighted sums, with a block's weighted sum for expert `e` added. -/
def addP (H : FVec F S512x4608 .bf16) (vaub : Vec F S8x512x768 .bf16) (wa : Vec F S8x384 .f32) (e : Fin 8)
    (old : Vec F S1x512 .f32) : FVec F S1x512 .f32 := k0_pay1 (hidOf H e) (wtsOf H vaub wa e) old

/-- A row of the sums of weights, with a block's sum for expert `e` added. -/
def addZ (H : FVec F S512x4608 .bf16) (vaub : Vec F S8x512x768 .bf16) (wa : Vec F S8x384 .f32) (e : Fin 8)
    (old : Vec F S1x128 .f32) : FVec F S1x128 .f32 := k0_pay2 (wtsOf H vaub wa e) old

/-! ## The scratch buffers -/

/-- The rows `4 e + r`, one for each expert `e`, changed by `G e`; the others kept. -/
def updRows {α : Type} {n : ℕ} (r : ℕ)
    (G : Fin 8 → ((⟨2, ![1, n]⟩ : Shape).Idx → α) → (⟨2, ![1, n]⟩ : Shape).Idx → α)
    (s : (⟨2, ![32, n]⟩ : Shape).Idx → α) : (⟨2, ![32, n]⟩ : Shape).Idx → α :=
  fun y => if (y 0).val % 4 = r then
    G ⟨(y 0).val / 4, by have := (y 0).isLt; exact Nat.div_lt_of_lt_mul (by simpa using this)⟩
      (fun z => s (ix2 (y 0) (z 1))) (ix2 0 (y 1))
  else s y

/-- What the four scratch buffers hold. -/
structure St (F : FTy → Type) [FloatOps F] where
  vaub : S8x512x768.Idx → Elt F .bf16
  rsum : S4x512.Idx → Elt F .f32
  psum : S32x512.Idx → Elt F .f32
  zsum : S32x128.Idx → Elt F .f32

/-- What the first grid point puts into them before it adds its block: the two projections side by
side, and zeros. -/
def St.init (Va Ua : Vec F S8x512x384 .f32) : St F where
  vaub := fun y =>
    if h : (y 2).val < 384 then
      k0_pay3 (VecWindow.window Va ![(y 0).val, 0, 0] S1x512x384.size (inb_va3 (y 0))) (ix3 0 (y 1) ⟨(y 2).val, h⟩)
    else
      k0_pay3 (VecWindow.window Ua ![(y 0).val, 0, 0] S1x512x384.size (inb_va3 (y 0)))
        (ix3 0 (y 1) ⟨(y 2).val - 384, by have : (y 2).val < 768 := (y 2).isLt; omega⟩)
  rsum := k0_pay56
  psum := k0_pay57
  zsum := k0_pay58

/-- What a grid point of batch `r` makes of them: its block added. -/
def St.step (r : ℕ) (x : Vec F S1x512x2048 .f32) (W : Vec F S2048x4608 .bf16) (b : Vec F S1x4608 .f32)
    (wa : Vec F S8x384 .f32) (s : St F) : St F where
  vaub := s.vaub
  rsum := fun y => if (y 0).val = r then
      k0_pay60 x W b (fun z => s.rsum (ix2 (y 0) (z 1))) (ix2 0 (y 1)) else s.rsum y
  psum := updRows r (addP (k0_pay59 x W b) s.vaub wa) s.psum
  zsum := updRows r (addZ (k0_pay59 x W b) s.vaub wa) s.zsum

/-! ## The last grid point's results -/

/-- Expert `e`'s latent vectors, from its pooled features. -/
def latOf (p : FVec F S32x512 .f32) (W2 : Vec F S8x512x64 .f32) (b2 : Vec F S8x64 .f32) (e : Fin 8) : FVec F S4x64 .f32 :=
  maximumf
    (addf (matmul dot_S4x512_S512x64_S4x64_1_0_0_1_n_n none (extractStridedSlice S4x512 ![4 * e.val, 0] p (slices_pool e))
        (shapeCast S512x64 (VecWindow.window W2 ![e.val, 0, 0] S1x512x64.size (inb_w2 e)) shapeCasts_S1x512x64_S512x64)
        (constant S4x64 .f32 0x00000000#32))
      (broadcastTo S4x64 (shapeCast S1x64 (shapeCast S64 (VecWindow.window b2 ![e.val, 0] S1x64.size (inb_b2 e)) shapeCasts_S1x64_S64)
        shapeCasts_S64_S1x64) broadcasts_S1x64_S4x64))
    (broadcast S4x64 (Scalar.ofBits .f32 0x00000000#32))

/-- Expert `e`'s head, from its latent vectors. -/
def headOf (L : FVec F S4x64 .f32) (Wh : Vec F S8x64x10 .f32) (bh : Vec F S8x10 .f32) (e : Fin 8) : FVec F S4x10 .f32 :=
  addf (matmul dot_S4x64_S64x10_S4x10_1_0_0_1_n_n none L
      (shapeCast S64x10 (VecWindow.window Wh ![e.val, 0, 0] S1x64x10.size (inb_wh e)) shapeCasts_S1x64x10_S64x10)
      (constant S4x10 .f32 0x00000000#32))
    (broadcastTo S4x10 (shapeCast S1x10 (shapeCast S10 (VecWindow.window bh ![e.val, 0] S1x10.size (inb_bh e)) shapeCasts_S1x10_S10)
      shapeCasts_S10_S1x10) broadcasts_S1x10_S4x10)

/-- The column of the gates that belongs to expert `e`. -/
def gateOf (g : FVec F S4x8 .f32) (e : Fin 8) : FVec F S4x1 .f32 :=
  extractStridedSlice S4x1 ![0, e.val] g (slices_gate e)

/-- The latent vectors of the first `j` experts, each times its gate, added up. -/
def latSum (g : FVec F S4x8 .f32) (L : Fin 8 → FVec F S4x64 .f32) : (j : ℕ) → j ≤ 8 → FVec F S4x64 .f32
  | 0, _ => k0_pay20
  | j + 1, h => addf (latSum g L j (Nat.le_of_succ_le h)) (mulf (broadcastTo S4x64 (gateOf g ⟨j, h⟩) broadcasts_S4x1_S4x64) (L ⟨j, h⟩))

/-- The heads of the first `j` experts, each times its gate, added up. -/
def headSum (g : FVec F S4x8 .f32) (L : Fin 8 → FVec F S4x10 .f32) : (j : ℕ) → j ≤ 8 → FVec F S4x10 .f32
  | 0, _ => k0_pay21
  | j + 1, h => addf (headSum g L j (Nat.le_of_succ_le h)) (mulf (broadcastTo S4x10 (gateOf g ⟨j, h⟩) broadcasts_S4x1_S4x10) (L ⟨j, h⟩))

/-- The pooled features: the weighted sums over the sums of weights. -/
def St.pooled (s : St F) : FVec F S32x512 .f32 :=
  k0_pay19 s.psum (VecWindow.window s.zsum ![0, 0] S32x1.size inb_S32x128_S32x1_0_0)

/-- The third result: the gates. -/
def St.gates (s : St F) (Wf : Vec F S512x8 .f32) (bf : Vec F S8 .f32) : FVec F S4x8 .f32 := k0_pay18 s.rsum Wf bf

/-- The first result: the gated latent vectors. -/
def St.lat (s : St F) (Wf : Vec F S512x8 .f32) (bf : Vec F S8 .f32) (W2 : Vec F S8x512x64 .f32) (b2 : Vec F S8x64 .f32) :
    FVec F S4x64 .f32 := latSum (s.gates Wf bf) (latOf s.pooled W2 b2) 8 le_rfl

/-- The second result: the gated heads. -/
def St.logits (s : St F) (Wf : Vec F S512x8 .f32) (bf : Vec F S8 .f32) (W2 : Vec F S8x512x64 .f32) (b2 : Vec F S8x64 .f32)
    (Wh : Vec F S8x64x10 .f32) (bh : Vec F S8x10 .f32) : FVec F S4x10 .f32 :=
  headSum (s.gates Wf bf) (fun e => headOf (latOf s.pooled W2 b2 e) Wh bh e) 8 le_rfl

end Cert.KernelIdeal.Hand

end
-- ==== Proof.Rows.lean ====
module

public import proofs.«01_k».proof.Proof.Block

/-!
# Stores of rows, read back

A grid point stores one row of a sum for each expert. What the buffer reads after the eight stores
is `updRows` of what it read before, whether the program's loads are recorded as loads of the
first contents or as loads of the contents between.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx

section
variable {sig' : RefSig} {κ : Kind} {sp : Space} {e : EltTy} {Val : EltTy → Type} {n : ℕ}
variable (v : View sig' κ sp (⟨2, ![32, n]⟩ : Shape) e) (f : v.ty.Contents Val)
variable (off : Fin 8 → Fin 2 → ℕ) (inb : ∀ i a, off i a + (![1, n] : Fin 2 → ℕ) a ≤ (![32, n] : Fin 2 → ℕ) a)
variable (G : Fin 8 → ((⟨2, ![1, n]⟩ : Shape).Idx → Val e) → (⟨2, ![1, n]⟩ : Shape).Idx → Val e)
variable (r : ℕ) (hr : r < 4) (hoff : ∀ i, off i = ![4 * i.val + r, 0])

include hoff in
/-- A load of row `4 i + r` reads that row. -/
theorem readAt_row (i : Fin 8) (y : (⟨2, ![32, n]⟩ : Shape).Idx) (hy : (y 0).val = 4 * i.val + r) :
    v.readAt Val (Rect.unit (s := ⟨2, ![32, n]⟩) (off i) ![1, n] (inb i)).toLoadRect f
      = fun z => v.read Val f (ix2 (y 0) (z 1)) := by
  funext z
  rw [View.readAt_unit v f (inb i) (hoff i) (by rw [← hoff i]; exact inb i)]
  refine congrArg (v.read Val f) (funext fun a => Fin.ext ?_)
  have h0 : (z 0).val = 0 := by have := (z 0).isLt; simp at this; omega
  match a with
  | ⟨0, _⟩ => show (4 * i.val + r) + 1 * (z 0).val = (y 0).val; omega
  | ⟨1, _⟩ => show 0 + 1 * (z 1).val = (z 1).val; omega

include hr hoff in
/-- Eight row stores whose loads read the first contents. -/
theorem read_tiles :
    v.read Val (v.writes Val f (View.tilePieces (s := ⟨2, ![32, n]⟩) ![1, n] off inb
        (fun i => G i (v.readAt Val (Rect.unit (s := ⟨2, ![32, n]⟩) (off i) ![1, n] (inb i)).toLoadRect f)) 8 le_rfl))
      = updRows r G (v.read Val f) := by
  funext y
  have hy : (y 0).val < 32 := (y 0).isLt
  unfold updRows
  split
  · next h =>
    have hi : (y 0).val = 4 * ((y 0).val / 4) + r := by omega
    rw [View.read_tilePieces v f ![1, n] off inb _ 8 le_rfl y ⟨(y 0).val / 4, by omega⟩ (by dsimp only; omega) (ix2 0 (y 1))
      (fun a => by
        rw [hoff]
        match a with
        | ⟨0, _⟩ => exact hi
        | ⟨1, _⟩ => exact (Nat.zero_add _).symm) 0
      (fun i' hi' => by
        rw [hoff]
        have : i'.val ≠ (y 0).val / 4 := fun h => hi' (Fin.ext h)
        show (y 0).val < 4 * i'.val + r ∨ 4 * i'.val + r + 1 ≤ (y 0).val
        omega),
      readAt_row v f off inb r hoff _ y hi]
    rfl
  · next h =>
    rw [View.read_tilePieces_miss v f ![1, n] off inb _ 8 le_rfl y 0 (fun i' _ => by
      rw [hoff]
      show (y 0).val < 4 * i'.val + r ∨ 4 * i'.val + r + 1 ≤ (y 0).val
      omega)]

/-- Eight row stores, newest first, on top of `base`, each of `G` of the row loaded just before it. -/
def rowPieces (base : List (View.Piece Val (⟨2, ![32, n]⟩ : Shape) e)) :
    (j : ℕ) → j ≤ 8 → List (View.Piece Val (⟨2, ![32, n]⟩ : Shape) e)
  | 0, _ => base
  | j + 1, h => ⟨Rect.unit (off ⟨j, h⟩) ![1, n] (inb ⟨j, h⟩),
      G ⟨j, h⟩ (v.readAt Val (Rect.unit (s := ⟨2, ![32, n]⟩) (off ⟨j, h⟩) ![1, n] (inb ⟨j, h⟩)).toLoadRect
        (v.writes Val f (rowPieces base j (Nat.le_of_succ_le h))))⟩ :: rowPieces base j (Nat.le_of_succ_le h)

include hr hoff in
/-- The first `j` of them read back. -/
theorem read_rowPieces_upTo (base : List (View.Piece Val (⟨2, ![32, n]⟩ : Shape) e)) (j : ℕ) (hj : j ≤ 8)
    (y : (⟨2, ![32, n]⟩ : Shape).Idx) :
    v.read Val (v.writes Val f (rowPieces v f off inb G base j hj)) y
      = if (y 0).val / 4 < j then updRows r G (v.read Val (v.writes Val f base)) y
        else v.read Val (v.writes Val f base) y := by
  have hy : (y 0).val < 32 := (y 0).isLt
  induction j generalizing y with
  | zero => rw [if_neg (by omega)]; rfl
  | succ j ih =>
    by_cases h : (y 0).val = 4 * j + r
    · rw [if_pos (by omega), rowPieces,
        View.read_writes_cons_unit_of_mem v f (inb ⟨j, hj⟩) _ _ y (ix2 0 (y 1)) (hoff ⟨j, hj⟩)
        (fun a => by
          match a with
          | ⟨0, _⟩ => exact h
          | ⟨1, _⟩ => exact (Nat.zero_add _).symm),
        readAt_row v _ off inb r hoff ⟨j, hj⟩ y h]
      unfold updRows
      rw [if_pos (by omega)]
      have hq : (⟨j, hj⟩ : Fin 8) = ⟨(y 0).val / 4, by omega⟩ := Fin.ext (by dsimp only; omega)
      rw [hq]
      refine congrFun (congrArg _ (funext fun z => ?_)) _
      exact (ih (Nat.le_of_succ_le hj) (ix2 (y 0) (z 1)) (y 0).isLt).trans (if_neg (show ¬ (y 0).val / 4 < j by omega))
    · rw [rowPieces, View.read_writes_cons_unit_of_not_mem v f (inb ⟨j, hj⟩) _ _ y (hoff ⟨j, hj⟩) 0 (by
          show (y 0).val < 4 * j + r ∨ 4 * j + r + 1 ≤ (y 0).val; omega), ih _ _ hy]
      by_cases h4 : (y 0).val / 4 < j
      · rw [if_pos h4, if_pos (by omega)]
      · rw [if_neg h4]
        split
        · unfold updRows; rw [if_neg (by omega)]
        · rfl

include hr hoff in
/-- Eight row stores whose loads read the contents between. -/
theorem read_rowPieces (base : List (View.Piece Val (⟨2, ![32, n]⟩ : Shape) e)) :
    v.read Val (v.writes Val f (rowPieces v f off inb G base 8 le_rfl))
      = updRows r G (v.read Val (v.writes Val f base)) := by
  funext y
  have hy : (y 0).val < 32 := (y 0).isLt
  rw [read_rowPieces_upTo v f off inb G r hr hoff, if_pos (by omega)]

end

/-! ## The one row of the router's sum -/

/-- A row store on top of `base`, of `g` of the row loaded just before it. -/
theorem read_row {sig' : RefSig} {κ : Kind} {sp : Space} {e : EltTy} {Val : EltTy → Type}
    (v : View sig' κ sp S4x512 e) (f f' : v.ty.Contents Val) (off : Fin 2 → ℕ)
    (inb : ∀ a, off a + S1x512.size a ≤ S4x512.size a) (r : ℕ) (hoff : off = ![r, 0])
    (g : (S1x512.Idx → Val e) → S1x512.Idx → Val e) (L : List (View.Piece Val S4x512 e))
    (hf : v.read Val f' = v.read Val (v.writes Val f L)) :
    v.read Val (v.writes Val f ((⟨Rect.unit (s := S4x512) off S1x512.size inb,
        g (v.readAt Val (Rect.unit (s := S4x512) off S1x512.size inb).toLoadRect f')⟩ : View.Piece Val S4x512 e) :: L))
      = fun y => if (y 0).val = r then g (fun z => v.read Val f' (ix2 (y 0) (z 1))) (ix2 0 (y 1)) else v.read Val f' y := by
  funext y
  by_cases h : (y 0).val = r
  · rw [if_pos h, View.read_writes_cons_unit_of_mem v f inb _ _ y (ix2 0 (y 1)) hoff
      (fun a => by
        match a with
        | ⟨0, _⟩ => exact h
        | ⟨1, _⟩ => exact (Nat.zero_add _).symm)]
    refine congrFun (congrArg g (funext fun z => ?_)) _
    rw [View.readAt_unit v f' inb hoff (by rw [← hoff]; exact inb)]
    refine congrArg (v.read Val f') (funext fun a => Fin.ext ?_)
    have h0 : (z 0).val = 0 := by have : (z 0).val < 1 := (z 0).isLt; omega
    match a with
    | ⟨0, _⟩ => show r + 1 * (z 0).val = (y 0).val; omega
    | ⟨1, _⟩ => show 0 + 1 * (z 1).val = (z 1).val; omega
  · rw [if_neg h, hf, View.read_writes_cons_unit_of_not_mem v f inb _ _ y hoff 0 (by
      show (y 0).val < r ∨ r + 1 ≤ (y 0).val; omega)]

/-! ## The two projections side by side -/

section
variable {sig' : RefSig} {κ : Kind} {sp : Space} {e : EltTy} {Val : EltTy → Type}
variable (v : View sig' κ sp S8x512x768 e) (f : v.ty.Contents Val)
variable (P Q : Fin 8 → S1x512x384.Idx → Val e)

theorem inb_left : ∀ (e : Fin 8) (a), (![e.val, 0, 0] : Fin 3 → ℕ) a + S1x512x384.size a ≤ S8x512x768.size a := by decide
theorem inb_right : ∀ (e : Fin 8) (a), (![e.val, 0, 384] : Fin 3 → ℕ) a + S1x512x384.size a ≤ S8x512x768.size a := by decide

/-- For each of the first `j` experts, newest first, the store of the right half over that of the left half. -/
def halfPieces : (j : ℕ) → j ≤ 8 → List (View.Piece Val S8x512x768 e)
  | 0, _ => []
  | j + 1, h => ⟨Rect.unit ![j, 0, 384] S1x512x384.size (inb_right ⟨j, h⟩), Q ⟨j, h⟩⟩ ::
      ⟨Rect.unit ![j, 0, 0] S1x512x384.size (inb_left ⟨j, h⟩), P ⟨j, h⟩⟩ :: halfPieces j (Nat.le_of_succ_le h)

theorem read_halfPieces_upTo (j : ℕ) (hj : j ≤ 8) (y : S8x512x768.Idx) (hy : (y 0).val < j) :
    v.read Val (v.writes Val f (halfPieces P Q j hj)) y
      = if h : (y 2).val < 384 then P (y 0) (ix3 0 (y 1) ⟨(y 2).val, h⟩)
        else Q (y 0) (ix3 0 (y 1) ⟨(y 2).val - 384, by have : (y 2).val < 768 := (y 2).isLt; omega⟩) := by
  have h2 : (y 2).val < 768 := (y 2).isLt
  have h1 : (y 1).val < 512 := (y 1).isLt
  induction j with
  | zero => omega
  | succ j ih =>
    rw [halfPieces]
    by_cases h : (y 0).val = j
    · have h0 : (⟨j, hj⟩ : Fin 8) = y 0 := Fin.ext h.symm
      split
      · next hlt =>
        rw [View.read_writes_cons_unit_of_not_mem v f (inb_right ⟨j, hj⟩) _ _ y rfl 2 (Or.inl (by show (y 2).val < 384; omega)),
          View.read_writes_cons_unit_of_mem v f (inb_left ⟨j, hj⟩) _ _ y (ix3 0 (y 1) ⟨(y 2).val, hlt⟩) rfl
          (fun a => by
            match a with
            | ⟨0, _⟩ => exact h
            | ⟨1, _⟩ => exact (Nat.zero_add _).symm
            | ⟨2, _⟩ => exact (Nat.zero_add _).symm), h0]
      · next hge =>
        rw [View.read_writes_cons_unit_of_mem v f (inb_right ⟨j, hj⟩) _ _ y
          (ix3 0 (y 1) ⟨(y 2).val - 384, by omega⟩) rfl
          (fun a => by
            match a with
            | ⟨0, _⟩ => exact h
            | ⟨1, _⟩ => exact (Nat.zero_add _).symm
            | ⟨2, _⟩ => show (y 2).val = 384 + ((y 2).val - 384); omega), h0]
    · rw [View.read_writes_cons_unit_of_not_mem v f (inb_right ⟨j, hj⟩) _ _ y rfl 0 (Or.inl (by show (y 0).val < j; omega)),
        View.read_writes_cons_unit_of_not_mem v f (inb_left ⟨j, hj⟩) _ _ y rfl 0 (Or.inl (by show (y 0).val < j; omega)),
        ih _ (by omega)]

end

end Cert.KernelIdeal.Hand

end
-- ==== Proof.Steps.lean ====
module

public import proofs.«01_k».proof.Proof.Rows

/-!
# What the body leaves in its buffers

Each of the body's three courses, read back: the scratch buffers hold the stepped state, and at the
last point the result buffers hold the results of that state.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F] [∀ e, Nonempty (Elt F e)]

theorem row_lt (i : grid0.Coords) : (i 0).val < 4 := (i 0).isLt

section
variable (i : grid0.Coords)

/-- The eight stores of rows of the weighted sums, their loads of the first contents. -/
theorem psum_tiles (v : View sig .tc .vmem S32x512 .f32) (f : v.ty.Contents (Elt F))
    (G : Fin 8 → (S1x512.Idx → Elt F .f32) → S1x512.Idx → Elt F .f32) :
    v.read (Elt F) (v.writes (Elt F) f (View.tilePieces S1x512.size (fun e : Fin 8 => k0_off2 i (BitVec.ofNat 32 (4 * e.val)))
        (fun e => k0_off2_inb i e) (fun e => G e (v.readAt (Elt F)
          (Rect.unit (s := S32x512) (k0_off2 i (BitVec.ofNat 32 (4 * e.val))) S1x512.size (k0_off2_inb i e)).toLoadRect f)) 8 le_rfl))
      = updRows (i 0).val G (v.read (Elt F) f) :=
  read_tiles v f (fun e => k0_off2 i (BitVec.ofNat 32 (4 * e.val))) (k0_off2_inb i) G (i 0).val (row_lt i) (k0_off2_eq i)

/-- The eight stores of rows of the sums of weights, their loads of the first contents. -/
theorem zsum_tiles (v : View sig .tc .vmem S32x128 .f32) (f : v.ty.Contents (Elt F))
    (G : Fin 8 → (S1x128.Idx → Elt F .f32) → S1x128.Idx → Elt F .f32) :
    v.read (Elt F) (v.writes (Elt F) f (View.tilePieces S1x128.size (fun e : Fin 8 => k0_off3 i (BitVec.ofNat 32 (4 * e.val)))
        (fun e => k0_off3_inb i e) (fun e => G e (v.readAt (Elt F)
          (Rect.unit (s := S32x128) (k0_off3 i (BitVec.ofNat 32 (4 * e.val))) S1x128.size (k0_off3_inb i e)).toLoadRect f)) 8 le_rfl))
      = updRows (i 0).val G (v.read (Elt F) f) :=
  read_tiles v f (fun e => k0_off3 i (BitVec.ofNat 32 (4 * e.val))) (k0_off3_inb i) G (i 0).val (row_lt i) (k0_off3_eq i)

/-- The eight stores of rows of the weighted sums, their loads of the contents between. -/
theorem psum_pieces (v : View sig .tc .vmem S32x512 .f32) (f : v.ty.Contents (Elt F))
    (G : Fin 8 → (S1x512.Idx → Elt F .f32) → S1x512.Idx → Elt F .f32) (base : List (View.Piece (Elt F) S32x512 .f32)) :
    v.read (Elt F) (v.writes (Elt F) f (rowPieces v f (fun e : Fin 8 => k0_off2 i (BitVec.ofNat 32 (4 * e.val)))
        (k0_off2_inb i) G base 8 le_rfl))
      = updRows (i 0).val G (v.read (Elt F) (v.writes (Elt F) f base)) :=
  read_rowPieces v f (fun e => k0_off2 i (BitVec.ofNat 32 (4 * e.val))) (k0_off2_inb i) G (i 0).val (row_lt i) (k0_off2_eq i) base

/-- The eight stores of rows of the sums of weights, their loads of the contents between. -/
theorem zsum_pieces (v : View sig .tc .vmem S32x128 .f32) (f : v.ty.Contents (Elt F))
    (G : Fin 8 → (S1x128.Idx → Elt F .f32) → S1x128.Idx → Elt F .f32) (base : List (View.Piece (Elt F) S32x128 .f32)) :
    v.read (Elt F) (v.writes (Elt F) f (rowPieces v f (fun e : Fin 8 => k0_off3 i (BitVec.ofNat 32 (4 * e.val)))
        (k0_off3_inb i) G base 8 le_rfl))
      = updRows (i 0).val G (v.read (Elt F) (v.writes (Elt F) f base)) :=
  read_rowPieces v f (fun e => k0_off3 i (BitVec.ofNat 32 (4 * e.val))) (k0_off3_inb i) G (i 0).val (row_lt i) (k0_off3_eq i) base

end

variable (c : Dev nD) (i : grid0.Coords)
  (M2 : Memref sig .tc .vmem S1x512x2048 .f32) (h2 : M2.IsWhole)
  (M3 : Memref sig .tc .vmem S2048x4608 .bf16) (h3 : M3.IsWhole)
  (M4 : Memref sig .tc .vmem S1x4608 .f32) (h4 : M4.IsWhole)
  (M5 : Memref sig .tc .vmem S8x512x384 .f32) (h5 : M5.IsWhole)
  (M6 : Memref sig .tc .vmem S8x512x384 .f32) (h6 : M6.IsWhole)
  (M7 : Memref sig .tc .vmem S8x384 .f32) (h7 : M7.IsWhole)
  (M8 : Memref sig .tc .vmem S512x8 .f32) (h8 : M8.IsWhole)
  (M9 : Memref sig .tc .vmem S8 .f32) (h9 : M9.IsWhole)
  (M10 : Memref sig .tc .vmem S8x512x64 .f32) (h10 : M10.IsWhole)
  (M11 : Memref sig .tc .vmem S8x64 .f32) (h11 : M11.IsWhole)
  (M12 : Memref sig .tc .vmem S8x64x10 .f32) (h12 : M12.IsWhole)
  (M13 : Memref sig .tc .vmem S8x10 .f32) (h13 : M13.IsWhole)
  (M14 : Memref sig .tc .vmem S4x64 .f32) (h14 : M14.IsWhole)
  (M15 : Memref sig .tc .vmem S4x10 .f32) (h15 : M15.IsWhole)
  (M16 : Memref sig .tc .vmem S4x8 .f32) (h16 : M16.IsWhole)
  (M17 : Memref sig .tc .vmem S8x512x768 .bf16) (h17 : M17.IsWhole)
  (M18 : Memref sig .tc .vmem S4x512 .f32) (h18 : M18.IsWhole)
  (M19 : Memref sig .tc .vmem S32x512 .f32) (h19 : M19.IsWhole)
  (M20 : Memref sig .tc .vmem S32x128 .f32) (h20 : M20.IsWhole)
  (f2 : Bf (F := F) c M2) (f3 : Bf (F := F) c M3) (f4 : Bf (F := F) c M4)
  (f5 : Bf (F := F) c M5) (f6 : Bf (F := F) c M6) (f7 : Bf (F := F) c M7)
  (f8 : Bf (F := F) c M8) (f9 : Bf (F := F) c M9) (f10 : Bf (F := F) c M10)
  (f11 : Bf (F := F) c M11) (f12 : Bf (F := F) c M12) (f13 : Bf (F := F) c M13)
  (f14 : Bf (F := F) c M14) (f15 : Bf (F := F) c M15) (f16 : Bf (F := F) c M16)
  (f17 : Bf (F := F) c M17) (f18 : Bf (F := F) c M18) (f19 : Bf (F := F) c M19)
  (f20 : Bf (F := F) c M20)

/-- The state that the scratch buffers' contents are. -/
abbrev stOf : St F :=
  ⟨M17.view.read (Elt F) f17, M18.view.read (Elt F) f18, M19.view.read (Elt F) f19, M20.view.read (Elt F) f20⟩

/-- The block's features, the first layer and its bias, as the body loads them. -/
abbrev ld2 : Vec F S1x512x2048 .f32 :=
  View.readAt (Elt F) M2.view (Rect.unit ![0, 0, 0] S1x512x2048.size inb_S1x512x2048_S1x512x2048_0_0_0).toLoadRect f2
abbrev ld3 : Vec F S2048x4608 .bf16 :=
  View.readAt (Elt F) M3.view (Rect.unit ![0, 0] S2048x4608.size inb_S2048x4608_S2048x4608_0_0).toLoadRect f3
abbrev ld4 : Vec F S1x4608 .f32 :=
  View.readAt (Elt F) M4.view (Rect.unit ![0, 0] S1x4608.size inb_S1x4608_S1x4608_0_0).toLoadRect f4

/-- The state stepped by the block in the input buffers. -/
abbrev stepOf (s : St F) : St F :=
  s.step (i 0).val (ld2 c M2 f2) (ld3 c M3 f3) (ld4 c M4 f4) (M7.view.read (Elt F) f7)

/-- The state that the first point starts from. -/
abbrev initOf : St F := St.init (M5.view.read (Elt F) f5) (M6.view.read (Elt F) f6)

/-- The hidden features of the block in the input buffers. -/
abbrev hidLd : FVec F S512x4608 .bf16 := k0_pay59 (ld2 c M2 f2) (ld3 c M3 f3) (ld4 c M4 f4)

section
variable (hc1 : ¬ first i) (hc2 : ¬ last i)

/-- What a point between leaves. -/
abbrev runB' := (runB c i
      M2 h2 M3 h3 M4 h4 M5 h5 M6 h6 M7 h7 M8 h8 M9 h9 M10 h10 M11 h11 M12 h12 M13 h13 M14 h14
      M15 h15 M16 h16 M17 h17 M18 h18 M19 h19 M20 h20 f2 f3 f4 f5 f6 f7 f8 f9 f10 f11 f12 f13
      f14 f15 f16 f17 f18 f19 f20 hc1 hc2).1

/-- A point between leaves the stepped state. -/
theorem runB_state :
    (⟨M17.view.read (Elt F) f17, M18.view.read (Elt F) (runB' c i
      M2 h2 M3 h3 M4 h4 M5 h5 M6 h6 M7 h7 M8 h8 M9 h9 M10 h10 M11 h11 M12 h12 M13 h13 M14 h14
      M15 h15 M16 h16 M17 h17 M18 h18 M19 h19 M20 h20 f2 f3 f4 f5 f6 f7 f8 f9 f10 f11 f12 f13
      f14 f15 f16 f17 f18 f19 f20 hc1 hc2).1,
      M19.view.read (Elt F) (runB' c i
      M2 h2 M3 h3 M4 h4 M5 h5 M6 h6 M7 h7 M8 h8 M9 h9 M10 h10 M11 h11 M12 h12 M13 h13 M14 h14
      M15 h15 M16 h16 M17 h17 M18 h18 M19 h19 M20 h20 f2 f3 f4 f5 f6 f7 f8 f9 f10 f11 f12 f13
      f14 f15 f16 f17 f18 f19 f20 hc1 hc2).2.1,
      M20.view.read (Elt F) (runB' c i
      M2 h2 M3 h3 M4 h4 M5 h5 M6 h6 M7 h7 M8 h8 M9 h9 M10 h10 M11 h11 M12 h12 M13 h13 M14 h14
      M15 h15 M16 h16 M17 h17 M18 h18 M19 h19 M20 h20 f2 f3 f4 f5 f6 f7 f8 f9 f10 f11 f12 f13
      f14 f15 f16 f17 f18 f19 f20 hc1 hc2).2.2⟩ : St F)
      = stepOf c i M2 M3 M4 M7 f2 f3 f4 f7 (stOf c M17 M18 M19 M20 f17 f18 f19 f20) := by
  simp only [St.step, St.mk.injEq]
  refine ⟨trivial, ?_, ?_, ?_⟩
  · refine Eq.trans ?_ (read_row M18.view f18 f18 (k0_off1 i) (k0_off1_inb i) (i 0).val (k0_off1_eq i)
      (k0_pay60 (ld2 c M2 f2) (ld3 c M3 f3) (ld4 c M4 f4)) [] rfl)
    refine congrArg (View.read (Elt F) M18.view) ?_
    dsimp only [runB', runB]
  · refine Eq.trans ?_ (psum_tiles i M19.view f19
      (addP (hidLd c M2 M3 M4 f2 f3 f4) (M17.view.read (Elt F) f17) (M7.view.read (Elt F) f7)))
    refine congrArg (View.read (Elt F) M19.view) ?_
    dsimp only [runB', runB]
    refine congrArg (M19.view.writes (Elt F) f19) ?_
    rfl
  · refine Eq.trans ?_ (zsum_tiles i M20.view f20
      (addZ (hidLd c M2 M3 M4 f2 f3 f4) (M17.view.read (Elt F) f17) (M7.view.read (Elt F) f7)))
    refine congrArg (View.read (Elt F) M20.view) ?_
    dsimp only [runB', runB]
    refine congrArg (M20.view.writes (Elt F) f20) ?_
    rfl

end

section
variable (hc1 : ¬ first i) (hc2 : last i)

/-- What the last point leaves. -/
abbrev runC' := (runC c i
      M2 h2 M3 h3 M4 h4 M5 h5 M6 h6 M7 h7 M8 h8 M9 h9 M10 h10 M11 h11 M12 h12 M13 h13 M14 h14
      M15 h15 M16 h16 M17 h17 M18 h18 M19 h19 M20 h20 f2 f3 f4 f5 f6 f7 f8 f9 f10 f11 f12 f13
      f14 f15 f16 f17 f18 f19 f20 hc1 hc2).1

/-- The last point leaves the stepped state. -/
theorem runC_state :
    (⟨M17.view.read (Elt F) f17, M18.view.read (Elt F) (runC' c i
      M2 h2 M3 h3 M4 h4 M5 h5 M6 h6 M7 h7 M8 h8 M9 h9 M10 h10 M11 h11 M12 h12 M13 h13 M14 h14
      M15 h15 M16 h16 M17 h17 M18 h18 M19 h19 M20 h20 f2 f3 f4 f5 f6 f7 f8 f9 f10 f11 f12 f13
      f14 f15 f16 f17 f18 f19 f20 hc1 hc2).2.2.2.1,
      M19.view.read (Elt F) (runC' c i
      M2 h2 M3 h3 M4 h4 M5 h5 M6 h6 M7 h7 M8 h8 M9 h9 M10 h10 M11 h11 M12 h12 M13 h13 M14 h14
      M15 h15 M16 h16 M17 h17 M18 h18 M19 h19 M20 h20 f2 f3 f4 f5 f6 f7 f8 f9 f10 f11 f12 f13
      f14 f15 f16 f17 f18 f19 f20 hc1 hc2).2.2.2.2.1,
      M20.view.read (Elt F) (runC' c i
      M2 h2 M3 h3 M4 h4 M5 h5 M6 h6 M7 h7 M8 h8 M9 h9 M10 h10 M11 h11 M12 h12 M13 h13 M14 h14
      M15 h15 M16 h16 M17 h17 M18 h18 M19 h19 M20 h20 f2 f3 f4 f5 f6 f7 f8 f9 f10 f11 f12 f13
      f14 f15 f16 f17 f18 f19 f20 hc1 hc2).2.2.2.2.2⟩ : St F)
      = stepOf c i M2 M3 M4 M7 f2 f3 f4 f7 (stOf c M17 M18 M19 M20 f17 f18 f19 f20) := by
  simp only [St.step, St.mk.injEq]
  refine ⟨trivial, ?_, ?_, ?_⟩
  · refine Eq.trans ?_ (read_row M18.view f18 f18 (k0_off1 i) (k0_off1_inb i) (i 0).val (k0_off1_eq i)
      (k0_pay60 (ld2 c M2 f2) (ld3 c M3 f3) (ld4 c M4 f4)) [] rfl)
    refine congrArg (View.read (Elt F) M18.view) ?_
    dsimp only [runC', runC]
    refine congrArg (M18.view.writes (Elt F) f18) ?_
    rfl
  · refine Eq.trans ?_ (psum_tiles i M19.view f19
      (addP (hidLd c M2 M3 M4 f2 f3 f4) (M17.view.read (Elt F) f17) (M7.view.read (Elt F) f7)))
    refine congrArg (View.read (Elt F) M19.view) ?_
    dsimp only [runC', runC]
    refine congrArg (M19.view.writes (Elt F) f19) ?_
    rfl
  · refine Eq.trans ?_ (zsum_tiles i M20.view f20
      (addZ (hidLd c M2 M3 M4 f2 f3 f4) (M17.view.read (Elt F) f17) (M7.view.read (Elt F) f7)))
    refine congrArg (View.read (Elt F) M20.view) ?_
    dsimp only [runC', runC]
    refine congrArg (M20.view.writes (Elt F) f20) ?_
    rfl

/-- The state that the last point leaves, as its own loads read it. -/
abbrev endOf : St F :=
  ⟨M17.view.read (Elt F) f17,
    View.readAt (Elt F) M18.view (Rect.unit ![0, 0] S4x512.size inb_S4x512_S4x512_0_0).toLoadRect (runC' c i
      M2 h2 M3 h3 M4 h4 M5 h5 M6 h6 M7 h7 M8 h8 M9 h9 M10 h10 M11 h11 M12 h12 M13 h13 M14 h14
      M15 h15 M16 h16 M17 h17 M18 h18 M19 h19 M20 h20 f2 f3 f4 f5 f6 f7 f8 f9 f10 f11 f12 f13
      f14 f15 f16 f17 f18 f19 f20 hc1 hc2).2.2.2.1,
    View.readAt (Elt F) M19.view (Rect.unit ![0, 0] S32x512.size inb_S32x512_S32x512_0_0).toLoadRect (runC' c i
      M2 h2 M3 h3 M4 h4 M5 h5 M6 h6 M7 h7 M8 h8 M9 h9 M10 h10 M11 h11 M12 h12 M13 h13 M14 h14
      M15 h15 M16 h16 M17 h17 M18 h18 M19 h19 M20 h20 f2 f3 f4 f5 f6 f7 f8 f9 f10 f11 f12 f13
      f14 f15 f16 f17 f18 f19 f20 hc1 hc2).2.2.2.2.1,
    M20.view.read (Elt F) (runC' c i
      M2 h2 M3 h3 M4 h4 M5 h5 M6 h6 M7 h7 M8 h8 M9 h9 M10 h10 M11 h11 M12 h12 M13 h13 M14 h14
      M15 h15 M16 h16 M17 h17 M18 h18 M19 h19 M20 h20 f2 f3 f4 f5 f6 f7 f8 f9 f10 f11 f12 f13
      f14 f15 f16 f17 f18 f19 f20 hc1 hc2).2.2.2.2.2⟩

/-- It is the stepped state. -/
theorem endOf_eq :
    endOf c i
      M2 h2 M3 h3 M4 h4 M5 h5 M6 h6 M7 h7 M8 h8 M9 h9 M10 h10 M11 h11 M12 h12 M13 h13 M14 h14
      M15 h15 M16 h16 M17 h17 M18 h18 M19 h19 M20 h20 f2 f3 f4 f5 f6 f7 f8 f9 f10 f11 f12 f13
      f14 f15 f16 f17 f18 f19 f20 hc1 hc2
      = stepOf c i M2 M3 M4 M7 f2 f3 f4 f7 (stOf c M17 M18 M19 M20 f17 f18 f19 f20) := by
  rw [← runC_state c i
      M2 h2 M3 h3 M4 h4 M5 h5 M6 h6 M7 h7 M8 h8 M9 h9 M10 h10 M11 h11 M12 h12 M13 h13 M14 h14
      M15 h15 M16 h16 M17 h17 M18 h18 M19 h19 M20 h20 f2 f3 f4 f5 f6 f7 f8 f9 f10 f11 f12 f13
      f14 f15 f16 f17 f18 f19 f20 hc1 hc2]
  simp only [St.mk.injEq]
  exact ⟨trivial, View.readAt_full .., View.readAt_full .., trivial⟩

/-- The router's weights and bias, as the body loads them. -/
abbrev ld8 : Vec F S512x8 .f32 :=
  View.readAt (Elt F) M8.view (Rect.unit ![0, 0] S512x8.size inb_S512x8_S512x8_0_0).toLoadRect f8
abbrev ld9 : Vec F S8 .f32 := View.readAt (Elt F) M9.view (Rect.unit ![0] S8.size inb_S8_S8_0).toLoadRect f9

/-- The last point leaves the latent vectors in the first result's buffer. -/
theorem runC_lat :
    M14.view.read (Elt F) (runC' c i
      M2 h2 M3 h3 M4 h4 M5 h5 M6 h6 M7 h7 M8 h8 M9 h9 M10 h10 M11 h11 M12 h12 M13 h13 M14 h14
      M15 h15 M16 h16 M17 h17 M18 h18 M19 h19 M20 h20 f2 f3 f4 f5 f6 f7 f8 f9 f10 f11 f12 f13
      f14 f15 f16 f17 f18 f19 f20 hc1 hc2).1
      = (endOf c i
      M2 h2 M3 h3 M4 h4 M5 h5 M6 h6 M7 h7 M8 h8 M9 h9 M10 h10 M11 h11 M12 h12 M13 h13 M14 h14
      M15 h15 M16 h16 M17 h17 M18 h18 M19 h19 M20 h20 f2 f3 f4 f5 f6 f7 f8 f9 f10 f11 f12 f13
      f14 f15 f16 f17 f18 f19 f20 hc1 hc2).lat (ld8 c M8 f8) (ld9 c M9 f9) (M10.view.read (Elt F) f10) (M11.view.read (Elt F) f11) := by
  have key := View.read_writes_full M14.view f14 inb_S4x64_S4x64_0_0 ((endOf c i
      M2 h2 M3 h3 M4 h4 M5 h5 M6 h6 M7 h7 M8 h8 M9 h9 M10 h10 M11 h11 M12 h12 M13 h13 M14 h14
      M15 h15 M16 h16 M17 h17 M18 h18 M19 h19 M20 h20 f2 f3 f4 f5 f6 f7 f8 f9 f10 f11 f12 f13
      f14 f15 f16 f17 f18 f19 f20 hc1 hc2).lat (ld8 c M8 f8) (ld9 c M9 f9) (M10.view.read (Elt F) f10) (M11.view.read (Elt F) f11)) []
  refine Eq.trans ?_ key
  refine congrArg (View.read (Elt F) M14.view) ?_
  dsimp only [endOf, runC', runC, St.lat, St.gates, St.pooled]
  refine congrArg (M14.view.writes (Elt F) f14) ?_
  rfl

/-- The last point leaves the heads in the second result's buffer. -/
theorem runC_logits :
    M15.view.read (Elt F) (runC' c i
      M2 h2 M3 h3 M4 h4 M5 h5 M6 h6 M7 h7 M8 h8 M9 h9 M10 h10 M11 h11 M12 h12 M13 h13 M14 h14
      M15 h15 M16 h16 M17 h17 M18 h18 M19 h19 M20 h20 f2 f3 f4 f5 f6 f7 f8 f9 f10 f11 f12 f13
      f14 f15 f16 f17 f18 f19 f20 hc1 hc2).2.1
      = (endOf c i
      M2 h2 M3 h3 M4 h4 M5 h5 M6 h6 M7 h7 M8 h8 M9 h9 M10 h10 M11 h11 M12 h12 M13 h13 M14 h14
      M15 h15 M16 h16 M17 h17 M18 h18 M19 h19 M20 h20 f2 f3 f4 f5 f6 f7 f8 f9 f10 f11 f12 f13
      f14 f15 f16 f17 f18 f19 f20 hc1 hc2).logits (ld8 c M8 f8) (ld9 c M9 f9) (M10.view.read (Elt F) f10) (M11.view.read (Elt F) f11)
          (M12.view.read (Elt F) f12) (M13.view.read (Elt F) f13) := by
  have key := View.read_writes_full M15.view f15 inb_S4x10_S4x10_0_0 ((endOf c i
      M2 h2 M3 h3 M4 h4 M5 h5 M6 h6 M7 h7 M8 h8 M9 h9 M10 h10 M11 h11 M12 h12 M13 h13 M14 h14
      M15 h15 M16 h16 M17 h17 M18 h18 M19 h19 M20 h20 f2 f3 f4 f5 f6 f7 f8 f9 f10 f11 f12 f13
      f14 f15 f16 f17 f18 f19 f20 hc1 hc2).logits (ld8 c M8 f8) (ld9 c M9 f9) (M10.view.read (Elt F) f10) (M11.view.read (Elt F) f11)
        (M12.view.read (Elt F) f12) (M13.view.read (Elt F) f13)) []
  refine Eq.trans ?_ key
  refine congrArg (View.read (Elt F) M15.view) ?_
  dsimp only [endOf, runC', runC, St.logits, St.gates, St.pooled]
  refine congrArg (M15.view.writes (Elt F) f15) ?_
  rfl

/-- The last point leaves the gates in the third result's buffer. -/
theorem runC_gates :
    M16.view.read (Elt F) (runC' c i
      M2 h2 M3 h3 M4 h4 M5 h5 M6 h6 M7 h7 M8 h8 M9 h9 M10 h10 M11 h11 M12 h12 M13 h13 M14 h14
      M15 h15 M16 h16 M17 h17 M18 h18 M19 h19 M20 h20 f2 f3 f4 f5 f6 f7 f8 f9 f10 f11 f12 f13
      f14 f15 f16 f17 f18 f19 f20 hc1 hc2).2.2.1
      = (endOf c i
      M2 h2 M3 h3 M4 h4 M5 h5 M6 h6 M7 h7 M8 h8 M9 h9 M10 h10 M11 h11 M12 h12 M13 h13 M14 h14
      M15 h15 M16 h16 M17 h17 M18 h18 M19 h19 M20 h20 f2 f3 f4 f5 f6 f7 f8 f9 f10 f11 f12 f13
      f14 f15 f16 f17 f18 f19 f20 hc1 hc2).gates (ld8 c M8 f8) (ld9 c M9 f9) := by
  have key := View.read_writes_full M16.view f16 inb_S4x8_S4x8_0_0 ((endOf c i
      M2 h2 M3 h3 M4 h4 M5 h5 M6 h6 M7 h7 M8 h8 M9 h9 M10 h10 M11 h11 M12 h12 M13 h13 M14 h14
      M15 h15 M16 h16 M17 h17 M18 h18 M19 h19 M20 h20 f2 f3 f4 f5 f6 f7 f8 f9 f10 f11 f12 f13
      f14 f15 f16 f17 f18 f19 f20 hc1 hc2).gates (ld8 c M8 f8) (ld9 c M9 f9)) []
  refine Eq.trans ?_ key
  refine congrArg (View.read (Elt F) M16.view) ?_
  dsimp only [endOf, runC', runC, St.gates]

end

section
variable (hc1 : first i) (hc2 : ¬ last i)

/-- What the first point leaves. -/
abbrev runA' := (runA c i
      M2 h2 M3 h3 M4 h4 M5 h5 M6 h6 M7 h7 M8 h8 M9 h9 M10 h10 M11 h11 M12 h12 M13 h13 M14 h14
      M15 h15 M16 h16 M17 h17 M18 h18 M19 h19 M20 h20 f2 f3 f4 f5 f6 f7 f8 f9 f10 f11 f12 f13
      f14 f15 f16 f17 f18 f19 f20 hc1 hc2).1

/-- The stores that fill the first scratch buffer, over anything. -/
abbrev halves : List (View.Piece (Elt F) S8x512x768 .bf16) :=
  halfPieces (fun e => k0_pay3 (VecWindow.window (M5.view.read (Elt F) f5) ![e.val, 0, 0] S1x512x384.size (inb_va3 e)))
    (fun e => k0_pay3 (VecWindow.window (M6.view.read (Elt F) f6) ![e.val, 0, 0] S1x512x384.size (inb_va3 e))) 8 le_rfl

theorem read_halves (f : Bf (F := F) c M17) :
    M17.view.read (Elt F) (M17.view.writes (Elt F) f (halves c M5 M6 f5 f6)) = (initOf c M5 M6 f5 f6).vaub :=
  funext fun y => read_halfPieces_upTo M17.view f _ _ 8 le_rfl y (y 0).isLt

/-- The first point leaves the stepped first state. -/
theorem runA_state :
    (⟨M17.view.read (Elt F) (runA' c i
      M2 h2 M3 h3 M4 h4 M5 h5 M6 h6 M7 h7 M8 h8 M9 h9 M10 h10 M11 h11 M12 h12 M13 h13 M14 h14
      M15 h15 M16 h16 M17 h17 M18 h18 M19 h19 M20 h20 f2 f3 f4 f5 f6 f7 f8 f9 f10 f11 f12 f13
      f14 f15 f16 f17 f18 f19 f20 hc1 hc2).1, M18.view.read (Elt F) (runA' c i
      M2 h2 M3 h3 M4 h4 M5 h5 M6 h6 M7 h7 M8 h8 M9 h9 M10 h10 M11 h11 M12 h12 M13 h13 M14 h14
      M15 h15 M16 h16 M17 h17 M18 h18 M19 h19 M20 h20 f2 f3 f4 f5 f6 f7 f8 f9 f10 f11 f12 f13
      f14 f15 f16 f17 f18 f19 f20 hc1 hc2).2.1,
      M19.view.read (Elt F) (runA' c i
      M2 h2 M3 h3 M4 h4 M5 h5 M6 h6 M7 h7 M8 h8 M9 h9 M10 h10 M11 h11 M12 h12 M13 h13 M14 h14
      M15 h15 M16 h16 M17 h17 M18 h18 M19 h19 M20 h20 f2 f3 f4 f5 f6 f7 f8 f9 f10 f11 f12 f13
      f14 f15 f16 f17 f18 f19 f20 hc1 hc2).2.2.1,
      M20.view.read (Elt F) (runA' c i
      M2 h2 M3 h3 M4 h4 M5 h5 M6 h6 M7 h7 M8 h8 M9 h9 M10 h10 M11 h11 M12 h12 M13 h13 M14 h14
      M15 h15 M16 h16 M17 h17 M18 h18 M19 h19 M20 h20 f2 f3 f4 f5 f6 f7 f8 f9 f10 f11 f12 f13
      f14 f15 f16 f17 f18 f19 f20 hc1 hc2).2.2.2⟩ : St F)
      = stepOf c i M2 M3 M4 M7 f2 f3 f4 f7 (initOf c M5 M6 f5 f6) := by
  simp only [St.step, St.mk.injEq]
  have hva := read_halves c M5 M6 M17 f5 f6
  refine ⟨?_, ?_, ?_, ?_⟩
  · refine Eq.trans ?_ (hva f17)
    refine congrArg (View.read (Elt F) M17.view) ?_
    dsimp only [runA', runA]
    refine congrArg (M17.view.writes (Elt F) f17) ?_
    rfl
  · have hz : M18.view.read (Elt F) (M18.view.writes (Elt F) M18.view.junk
        [⟨Rect.unit ![0, 0] S4x512.size inb_S4x512_S4x512_0_0, k0_pay56⟩]) = (initOf c M5 M6 f5 f6).rsum :=
      View.read_writes_full M18.view M18.view.junk inb_S4x512_S4x512_0_0 _ []
    rw [← hz]
    refine Eq.trans ?_ (read_row M18.view M18.view.junk (M18.view.writes (Elt F) M18.view.junk
        [⟨Rect.unit ![0, 0] S4x512.size inb_S4x512_S4x512_0_0, k0_pay56⟩]) (k0_off1 i) (k0_off1_inb i) (i 0).val (k0_off1_eq i)
      (k0_pay60 (ld2 c M2 f2) (ld3 c M3 f3) (ld4 c M4 f4)) _ rfl)
    refine congrArg (View.read (Elt F) M18.view) ?_
    dsimp only [runA', runA]
    refine congrArg (M18.view.writes (Elt F) M18.view.junk) ?_
    rfl
  · have hz : M19.view.read (Elt F) (M19.view.writes (Elt F) M19.view.junk
        [⟨Rect.unit ![0, 0] S32x512.size inb_S32x512_S32x512_0_0, k0_pay57⟩]) = (initOf c M5 M6 f5 f6).psum :=
      View.read_writes_full M19.view M19.view.junk inb_S32x512_S32x512_0_0 _ []
    rw [← hz, ← hva M17.view.junk]
    refine Eq.trans ?_ (psum_pieces i M19.view M19.view.junk
      (addP (hidLd c M2 M3 M4 f2 f3 f4) _ (M7.view.read (Elt F) f7)) _)
    refine congrArg (View.read (Elt F) M19.view) ?_
    dsimp only [runA', runA]
    refine congrArg (M19.view.writes (Elt F) M19.view.junk) ?_
    rfl
  · have hz : M20.view.read (Elt F) (M20.view.writes (Elt F) M20.view.junk
        [⟨Rect.unit ![0, 0] S32x128.size inb_S32x128_S32x128_0_0, k0_pay58⟩]) = (initOf c M5 M6 f5 f6).zsum :=
      View.read_writes_full M20.view M20.view.junk inb_S32x128_S32x128_0_0 _ []
    rw [← hz, ← hva M17.view.junk]
    refine Eq.trans ?_ (zsum_pieces i M20.view M20.view.junk
      (addZ (hidLd c M2 M3 M4 f2 f3 f4) _ (M7.view.read (Elt F) f7)) _)
    refine congrArg (View.read (Elt F) M20.view) ?_
    dsimp only [runA', runA]
    refine congrArg (M20.view.writes (Elt F) M20.view.junk) ?_
    rfl

end

end Cert.KernelIdeal.Hand

end
-- ==== Proof.Launch.lean ====
/-
  The launch of the kernel's program: its staging semaphores and buffers are distinct, its host operations come
  before its one region, and `main` is the chain of the two. The facts are decided from the printed program.
-/
module

public import proofs.«01_k».proof.Proof.Gen.KernelIdeal
public import Idealize.ShloMosaic.Lib.Pipeline.Kit
public import Idealize.ShloMosaic.Lib.Pipeline.Regions

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-! ## The staging cells -/

/-- Each custom_call's staging semaphores, listed window by window and slot by slot. -/
abbrev semTab : Fin 1 → List (DmaSem sig) :=
  fun | 0 => Pipeline.specSems spec0 | ⟨_ + 1, h⟩ => absurd h (Nat.not_lt.2 (Nat.le_add_left _ _))
/-- Within each custom_call, no two staging buffers complete on one DMA semaphore. -/
theorem semsDistinct : ∀ p : Fin 1, (semTab p).Nodup := by decide
/-- No two custom_calls' staging buffers share a DMA semaphore. -/
theorem semsDisjoint : ∀ p p' : Fin 1, p ≠ p' → (semTab p).Forall (· ∉ semTab p') := by decide
/-- The program's staging cells are pairwise distinct. -/
theorem cellOf_inj : Function.Injective (Pipeline.cellOf (nD := nD) (τ := τ) cfgs) :=
  Pipeline.cellOf_injective_of_table cfgs semTab (fun | 0 => rfl | ⟨_ + 1, h⟩ => absurd h (Nat.not_lt.2 (Nat.le_add_left _ _))) semsDistinct semsDisjoint

/-! ## custom_call 0 (pipeline 0 of @main) -/

/-- The layout the launch needs: the windows' arrays unscoped, distinct buffers, the staging buffers scoped and
    distinct, the staging semaphores scoped. -/
theorem winFacts0 : Pipeline.WinFacts spec0 := by decide
/-- No window's block is empty. -/
theorem block_pos0 : ∀ w : Fin 15, 0 < (spec0 w).block.numel := by decide
/-- The windows' arrays and the staging memrefs are whole buffers. -/
theorem arr_whole0 : ∀ w : Fin 15, (spec0 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | 7 => Memref.isWhole_whole _ | 8 => Memref.isWhole_whole _ | 9 => Memref.isWhole_whole _ | 10 => Memref.isWhole_whole _ | 11 => Memref.isWhole_whole _ | 12 => Memref.isWhole_whole _ | 13 => Memref.isWhole_whole _ | 14 => Memref.isWhole_whole _ | ⟨_ + 15, h⟩ => absurd h (Nat.not_lt.2 (Nat.le_add_left _ _))
theorem stage_whole0 : ∀ (w : Fin 15) (s : Fin (spec0 w).nbuf), ((spec0 w).stage s).IsWhole := fun | 0 => fun s => hstage0_0 (s.cast nbuf0_0) | 1 => fun s => hstage0_1 (s.cast nbuf0_1) | 2 => fun s => hstage0_2 (s.cast nbuf0_2) | 3 => fun s => hstage0_3 (s.cast nbuf0_3) | 4 => fun s => hstage0_4 (s.cast nbuf0_4) | 5 => fun s => hstage0_5 (s.cast nbuf0_5) | 6 => fun s => hstage0_6 (s.cast nbuf0_6) | 7 => fun s => hstage0_7 (s.cast nbuf0_7) | 8 => fun s => hstage0_8 (s.cast nbuf0_8) | 9 => fun s => hstage0_9 (s.cast nbuf0_9) | 10 => fun s => hstage0_10 (s.cast nbuf0_10) | 11 => fun s => hstage0_11 (s.cast nbuf0_11) | 12 => fun s => hstage0_12 (s.cast nbuf0_12) | 13 => fun s => hstage0_13 (s.cast nbuf0_13) | 14 => fun s => hstage0_14 (s.cast nbuf0_14) | ⟨_ + 15, h⟩ => absurd h (Nat.not_lt.2 (Nat.le_add_left _ _))
/-- The five, bundled: what the kit-form launch theorems (Lib/Pipeline/Kit.lean `θ_run_region*_kit`) take. -/
theorem launch0 : Pipeline.LaunchFacts (nD := nD) (τ := τ) cfgs 0 := ⟨cellOf_inj, winFacts0, block_pos0, arr_whole0, stage_whole0⟩

/-- The grid has 16 points. -/
theorem N_0 : grid0.N = 16 := by decide
/-- The windows conjoined one by one. -/
theorem bigSep_W0 {M : Type} [URA M] (Φ : Fin 15 → sProp M) : bigSep Finset.univ Φ = iprop(Φ (0 : Fin 15) ∗ Φ (1 : Fin 15) ∗ Φ (2 : Fin 15) ∗ Φ (3 : Fin 15) ∗ Φ (4 : Fin 15) ∗ Φ (5 : Fin 15) ∗ Φ (6 : Fin 15) ∗ Φ (7 : Fin 15) ∗ Φ (8 : Fin 15) ∗ Φ (9 : Fin 15) ∗ Φ (10 : Fin 15) ∗ Φ (11 : Fin 15) ∗ Φ (12 : Fin 15) ∗ Φ (13 : Fin 15) ∗ Φ (14 : Fin 15)) :=
  bigSep_univ_eq_bigSepL [(0 : Fin 15), (1 : Fin 15), (2 : Fin 15), (3 : Fin 15), (4 : Fin 15), (5 : Fin 15), (6 : Fin 15), (7 : Fin 15), (8 : Fin 15), (9 : Fin 15), (10 : Fin 15), (11 : Fin 15), (12 : Fin 15), (13 : Fin 15), (14 : Fin 15)] (by decide) (by decide) Φ
/-- The core's scoped buffers that are no staging buffer of custom_call 0, each whole at some contents:
    `cc0_scratch0`, `cc0_scratch1`, `cc0_scratch2`, `cc0_scratch3`. -/
theorem scopedRest0_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = iprop((∃ f : Buf Val ((c : Thread nD τ).loc cc0_scratch0), ((c : Thread nD τ).loc cc0_scratch0) ↦{fullShare} f) ∗ (∃ f : Buf Val ((c : Thread nD τ).loc cc0_scratch1), ((c : Thread nD τ).loc cc0_scratch1) ↦{fullShare} f) ∗ (∃ f : Buf Val ((c : Thread nD τ).loc cc0_scratch2), ((c : Thread nD τ).loc cc0_scratch2) ↦{fullShare} f) ∗ (∃ f : Buf Val ((c : Thread nD τ).loc cc0_scratch3), ((c : Thread nD τ).loc cc0_scratch3) ↦{fullShare} f)) :=
  Pipeline.scopedRest_eq_of_list spec0 c [cc0_scratch0, cc0_scratch1, cc0_scratch2, cc0_scratch3] (by decide) (by decide)
-- the unscoped rest of custom_call 0 is 39 buffers: not enumerated (routed whole, as `Pipeline.unscopedRest`)

/-! ## @main as segments and as a chain of items (Lib/Pipeline/Regions.lean `θ_run_regions_kit`, `Pipeline.chain`) -/

/-- 37 host operations of @kernel (main_call0), in order. -/
abbrev hostOps0 : List (HloOp τ sig (Elt F)) :=
  ( StableHlo.TRef.unary (.of main_arg5 : StableHlo.TRef sig ⟨S8x2048x512, .f32⟩) (.of main_call0_v0 : StableHlo.TRef sig ⟨S1x2048x512, .f32⟩) (extractStridedSlice S1x2048x512 ![0, 0, 0] · slices_S8x2048x512_S1x2048x512_0_0_0)
  :: StableHlo.TRef.reshape (.of main_call0_v0 : StableHlo.TRef sig ⟨S1x2048x512, .f32⟩) (.of main_call0_v1 : StableHlo.TRef sig ⟨S2048x512, .f32⟩) (rfl : (.f32 : EltTy) = .f32) shapeCasts_S1x2048x512_S2048x512
  :: StableHlo.TRef.unary (.of main_arg5 : StableHlo.TRef sig ⟨S8x2048x512, .f32⟩) (.of main_call0_v2 : StableHlo.TRef sig ⟨S1x2048x512, .f32⟩) (extractStridedSlice S1x2048x512 ![1, 0, 0] · slices_S8x2048x512_S1x2048x512_1_0_0)
  :: StableHlo.TRef.reshape (.of main_call0_v2 : StableHlo.TRef sig ⟨S1x2048x512, .f32⟩) (.of main_call0_v3 : StableHlo.TRef sig ⟨S2048x512, .f32⟩) (rfl : (.f32 : EltTy) = .f32) shapeCasts_S1x2048x512_S2048x512
  :: StableHlo.TRef.unary (.of main_arg5 : StableHlo.TRef sig ⟨S8x2048x512, .f32⟩) (.of main_call0_v4 : StableHlo.TRef sig ⟨S1x2048x512, .f32⟩) (extractStridedSlice S1x2048x512 ![2, 0, 0] · slices_S8x2048x512_S1x2048x512_2_0_0)
  :: StableHlo.TRef.reshape (.of main_call0_v4 : StableHlo.TRef sig ⟨S1x2048x512, .f32⟩) (.of main_call0_v5 : StableHlo.TRef sig ⟨S2048x512, .f32⟩) (rfl : (.f32 : EltTy) = .f32) shapeCasts_S1x2048x512_S2048x512
  :: StableHlo.TRef.unary (.of main_arg5 : StableHlo.TRef sig ⟨S8x2048x512, .f32⟩) (.of main_call0_v6 : StableHlo.TRef sig ⟨S1x2048x512, .f32⟩) (extractStridedSlice S1x2048x512 ![3, 0, 0] · slices_S8x2048x512_S1x2048x512_3_0_0)
  :: StableHlo.TRef.reshape (.of main_call0_v6 : StableHlo.TRef sig ⟨S1x2048x512, .f32⟩) (.of main_call0_v7 : StableHlo.TRef sig ⟨S2048x512, .f32⟩) (rfl : (.f32 : EltTy) = .f32) shapeCasts_S1x2048x512_S2048x512
  :: StableHlo.TRef.unary (.of main_arg5 : StableHlo.TRef sig ⟨S8x2048x512, .f32⟩) (.of main_call0_v8 : StableHlo.TRef sig ⟨S1x2048x512, .f32⟩) (extractStridedSlice S1x2048x512 ![4, 0, 0] · slices_S8x2048x512_S1x2048x512_4_0_0)
  :: StableHlo.TRef.reshape (.of main_call0_v8 : StableHlo.TRef sig ⟨S1x2048x512, .f32⟩) (.of main_call0_v9 : StableHlo.TRef sig ⟨S2048x512, .f32⟩) (rfl : (.f32 : EltTy) = .f32) shapeCasts_S1x2048x512_S2048x512
  :: StableHlo.TRef.unary (.of main_arg5 : StableHlo.TRef sig ⟨S8x2048x512, .f32⟩) (.of main_call0_v10 : StableHlo.TRef sig ⟨S1x2048x512, .f32⟩) (extractStridedSlice S1x2048x512 ![5, 0, 0] · slices_S8x2048x512_S1x2048x512_5_0_0)
  :: StableHlo.TRef.reshape (.of main_call0_v10 : StableHlo.TRef sig ⟨S1x2048x512, .f32⟩) (.of main_call0_v11 : StableHlo.TRef sig ⟨S2048x512, .f32⟩) (rfl : (.f32 : EltTy) = .f32) shapeCasts_S1x2048x512_S2048x512
  :: StableHlo.TRef.unary (.of main_arg5 : StableHlo.TRef sig ⟨S8x2048x512, .f32⟩) (.of main_call0_v12 : StableHlo.TRef sig ⟨S1x2048x512, .f32⟩) (extractStridedSlice S1x2048x512 ![6, 0, 0] · slices_S8x2048x512_S1x2048x512_6_0_0)
  :: StableHlo.TRef.reshape (.of main_call0_v12 : StableHlo.TRef sig ⟨S1x2048x512, .f32⟩) (.of main_call0_v13 : StableHlo.TRef sig ⟨S2048x512, .f32⟩) (rfl : (.f32 : EltTy) = .f32) shapeCasts_S1x2048x512_S2048x512
  :: StableHlo.TRef.unary (.of main_arg5 : StableHlo.TRef sig ⟨S8x2048x512, .f32⟩) (.of main_call0_v14 : StableHlo.TRef sig ⟨S1x2048x512, .f32⟩) (extractStridedSlice S1x2048x512 ![7, 0, 0] · slices_S8x2048x512_S1x2048x512_7_0_0)
  :: StableHlo.TRef.reshape (.of main_call0_v14 : StableHlo.TRef sig ⟨S1x2048x512, .f32⟩) (.of main_call0_v15 : StableHlo.TRef sig ⟨S2048x512, .f32⟩) (rfl : (.f32 : EltTy) = .f32) shapeCasts_S1x2048x512_S2048x512
  :: StableHlo.TRef.nary ![(.of main_arg1 : StableHlo.TRef sig ⟨S2048x512, .f32⟩), (.of main_call0_v1 : StableHlo.TRef sig ⟨S2048x512, .f32⟩), (.of main_call0_v3 : StableHlo.TRef sig ⟨S2048x512, .f32⟩), (.of main_call0_v5 : StableHlo.TRef sig ⟨S2048x512, .f32⟩), (.of main_call0_v7 : StableHlo.TRef sig ⟨S2048x512, .f32⟩), (.of main_call0_v9 : StableHlo.TRef sig ⟨S2048x512, .f32⟩), (.of main_call0_v11 : StableHlo.TRef sig ⟨S2048x512, .f32⟩), (.of main_call0_v13 : StableHlo.TRef sig ⟨S2048x512, .f32⟩), (.of main_call0_v15 : StableHlo.TRef sig ⟨S2048x512, .f32⟩)] (.of main_call0_v16 : StableHlo.TRef sig ⟨S2048x4608, .f32⟩) (fun u => (concatenate S2048x4608 1 [⟨S2048x512, (u 0 : (⟨S2048x512, .f32⟩ : BufTy).Contents (Elt F))⟩, ⟨S2048x512, (u 1 : (⟨S2048x512, .f32⟩ : BufTy).Contents (Elt F))⟩, ⟨S2048x512, (u 2 : (⟨S2048x512, .f32⟩ : BufTy).Contents (Elt F))⟩, ⟨S2048x512, (u 3 : (⟨S2048x512, .f32⟩ : BufTy).Contents (Elt F))⟩, ⟨S2048x512, (u 4 : (⟨S2048x512, .f32⟩ : BufTy).Contents (Elt F))⟩, ⟨S2048x512, (u 5 : (⟨S2048x512, .f32⟩ : BufTy).Contents (Elt F))⟩, ⟨S2048x512, (u 6 : (⟨S2048x512, .f32⟩ : BufTy).Contents (Elt F))⟩, ⟨S2048x512, (u 7 : (⟨S2048x512, .f32⟩ : BufTy).Contents (Elt F))⟩, ⟨S2048x512, (u 8 : (⟨S2048x512, .f32⟩ : BufTy).Contents (Elt F))⟩] concatenates_S2048x512_S2048x512_S2048x512_S2048x512_S2048x512_S2048x512_S2048x512_S2048x512_S2048x512_S2048x4608_d1 : (⟨S2048x4608, .f32⟩ : BufTy).Contents (Elt F)))
  :: StableHlo.TRef.unary (.of main_call0_v16 : StableHlo.TRef sig ⟨S2048x4608, .f32⟩) (.of main_call0_v17 : StableHlo.TRef sig ⟨S2048x4608, .bf16⟩) (truncf .bf16 · bitsLt_bf16_f32)
  :: StableHlo.TRef.unary (.of main_arg6 : StableHlo.TRef sig ⟨S8x512, .f32⟩) (.of main_call0_v18 : StableHlo.TRef sig ⟨S1x512, .f32⟩) (extractStridedSlice S1x512 ![0, 0] · slices_S8x512_S1x512_0_0)
  :: StableHlo.TRef.reshape (.of main_call0_v18 : StableHlo.TRef sig ⟨S1x512, .f32⟩) (.of main_call0_v19 : StableHlo.TRef sig ⟨S512, .f32⟩) (rfl : (.f32 : EltTy) = .f32) shapeCasts_S1x512_S512
  :: StableHlo.TRef.unary (.of main_arg6 : StableHlo.TRef sig ⟨S8x512, .f32⟩) (.of main_call0_v20 : StableHlo.TRef sig ⟨S1x512, .f32⟩) (extractStridedSlice S1x512 ![1, 0] · slices_S8x512_S1x512_1_0)
  :: StableHlo.TRef.reshape (.of main_call0_v20 : StableHlo.TRef sig ⟨S1x512, .f32⟩) (.of main_call0_v21 : StableHlo.TRef sig ⟨S512, .f32⟩) (rfl : (.f32 : EltTy) = .f32) shapeCasts_S1x512_S512
  :: StableHlo.TRef.unary (.of main_arg6 : StableHlo.TRef sig ⟨S8x512, .f32⟩) (.of main_call0_v22 : StableHlo.TRef sig ⟨S1x512, .f32⟩) (extractStridedSlice S1x512 ![2, 0] · slices_S8x512_S1x512_2_0)
  :: StableHlo.TRef.reshape (.of main_call0_v22 : StableHlo.TRef sig ⟨S1x512, .f32⟩) (.of main_call0_v23 : StableHlo.TRef sig ⟨S512, .f32⟩) (rfl : (.f32 : EltTy) = .f32) shapeCasts_S1x512_S512
  :: StableHlo.TRef.unary (.of main_arg6 : StableHlo.TRef sig ⟨S8x512, .f32⟩) (.of main_call0_v24 : StableHlo.TRef sig ⟨S1x512, .f32⟩) (extractStridedSlice S1x512 ![3, 0] · slices_S8x512_S1x512_3_0)
  :: StableHlo.TRef.reshape (.of main_call0_v24 : StableHlo.TRef sig ⟨S1x512, .f32⟩) (.of main_call0_v25 : StableHlo.TRef sig ⟨S512, .f32⟩) (rfl : (.f32 : EltTy) = .f32) shapeCasts_S1x512_S512
  :: StableHlo.TRef.unary (.of main_arg6 : StableHlo.TRef sig ⟨S8x512, .f32⟩) (.of main_call0_v26 : StableHlo.TRef sig ⟨S1x512, .f32⟩) (extractStridedSlice S1x512 ![4, 0] · slices_S8x512_S1x512_4_0)
  :: StableHlo.TRef.reshape (.of main_call0_v26 : StableHlo.TRef sig ⟨S1x512, .f32⟩) (.of main_call0_v27 : StableHlo.TRef sig ⟨S512, .f32⟩) (rfl : (.f32 : EltTy) = .f32) shapeCasts_S1x512_S512
  :: StableHlo.TRef.unary (.of main_arg6 : StableHlo.TRef sig ⟨S8x512, .f32⟩) (.of main_call0_v28 : StableHlo.TRef sig ⟨S1x512, .f32⟩) (extractStridedSlice S1x512 ![5, 0] · slices_S8x512_S1x512_5_0)
  :: StableHlo.TRef.reshape (.of main_call0_v28 : StableHlo.TRef sig ⟨S1x512, .f32⟩) (.of main_call0_v29 : StableHlo.TRef sig ⟨S512, .f32⟩) (rfl : (.f32 : EltTy) = .f32) shapeCasts_S1x512_S512
  :: StableHlo.TRef.unary (.of main_arg6 : StableHlo.TRef sig ⟨S8x512, .f32⟩) (.of main_call0_v30 : StableHlo.TRef sig ⟨S1x512, .f32⟩) (extractStridedSlice S1x512 ![6, 0] · slices_S8x512_S1x512_6_0)
  :: StableHlo.TRef.reshape (.of main_call0_v30 : StableHlo.TRef sig ⟨S1x512, .f32⟩) (.of main_call0_v31 : StableHlo.TRef sig ⟨S512, .f32⟩) (rfl : (.f32 : EltTy) = .f32) shapeCasts_S1x512_S512
  :: StableHlo.TRef.unary (.of main_arg6 : StableHlo.TRef sig ⟨S8x512, .f32⟩) (.of main_call0_v32 : StableHlo.TRef sig ⟨S1x512, .f32⟩) (extractStridedSlice S1x512 ![7, 0] · slices_S8x512_S1x512_7_0)
  :: StableHlo.TRef.reshape (.of main_call0_v32 : StableHlo.TRef sig ⟨S1x512, .f32⟩) (.of main_call0_v33 : StableHlo.TRef sig ⟨S512, .f32⟩) (rfl : (.f32 : EltTy) = .f32) shapeCasts_S1x512_S512
  :: StableHlo.TRef.nary ![(.of main_arg2 : StableHlo.TRef sig ⟨S512, .f32⟩), (.of main_call0_v19 : StableHlo.TRef sig ⟨S512, .f32⟩), (.of main_call0_v21 : StableHlo.TRef sig ⟨S512, .f32⟩), (.of main_call0_v23 : StableHlo.TRef sig ⟨S512, .f32⟩), (.of main_call0_v25 : StableHlo.TRef sig ⟨S512, .f32⟩), (.of main_call0_v27 : StableHlo.TRef sig ⟨S512, .f32⟩), (.of main_call0_v29 : StableHlo.TRef sig ⟨S512, .f32⟩), (.of main_call0_v31 : StableHlo.TRef sig ⟨S512, .f32⟩), (.of main_call0_v33 : StableHlo.TRef sig ⟨S512, .f32⟩)] (.of main_call0_v34 : StableHlo.TRef sig ⟨S4608, .f32⟩) (fun u => (concatenate S4608 0 [⟨S512, (u 0 : (⟨S512, .f32⟩ : BufTy).Contents (Elt F))⟩, ⟨S512, (u 1 : (⟨S512, .f32⟩ : BufTy).Contents (Elt F))⟩, ⟨S512, (u 2 : (⟨S512, .f32⟩ : BufTy).Contents (Elt F))⟩, ⟨S512, (u 3 : (⟨S512, .f32⟩ : BufTy).Contents (Elt F))⟩, ⟨S512, (u 4 : (⟨S512, .f32⟩ : BufTy).Contents (Elt F))⟩, ⟨S512, (u 5 : (⟨S512, .f32⟩ : BufTy).Contents (Elt F))⟩, ⟨S512, (u 6 : (⟨S512, .f32⟩ : BufTy).Contents (Elt F))⟩, ⟨S512, (u 7 : (⟨S512, .f32⟩ : BufTy).Contents (Elt F))⟩, ⟨S512, (u 8 : (⟨S512, .f32⟩ : BufTy).Contents (Elt F))⟩] concatenates_S512_S512_S512_S512_S512_S512_S512_S512_S512_S4608_d0 : (⟨S4608, .f32⟩ : BufTy).Contents (Elt F)))
  :: StableHlo.TRef.unary (.of main_call0_v34 : StableHlo.TRef sig ⟨S4608, .f32⟩) (.of main_call0_v35 : StableHlo.TRef sig ⟨S1x4608, .f32⟩) (broadcastInDim S1x4608 ![1] bcast_S4608_S1x4608_1)
  :: StableHlo.TRef.reshape (.of main_arg9 : StableHlo.TRef sig ⟨S8x384x1, .f32⟩) (.of main_call0_v36 : StableHlo.TRef sig ⟨S8x384, .f32⟩) (rfl : (.f32 : EltTy) = .f32) shapeCasts_S8x384x1_S8x384
  :: [] )
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.nary_bufs_sub .., StableHlo.unary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.nary_bufs_sub .., StableHlo.unary_bufs_sub .., StableHlo.reshape_bufs_sub ..⟩
/-- This statement, from @kernel (main_call0), is the chain of its own items: each stretch of the function's operations aligned
    one at a time, every other item taken whole, then `chain_rfl`. -/
theorem main_chain_main_call0 : fn_kernel.body (F := F) (.of main_arg0) (.of main_arg1) (.of main_arg2) (.of main_arg3) (.of main_arg4) (.of main_arg5) (.of main_arg6) (.of main_arg7) (.of main_arg8) (.of main_arg9) (.of main_arg10) (.of main_arg11) (.of main_arg12) (.of main_arg13) main_call0 = (Pipeline.chain
  [ StableHlo.seq hostOps0,
    Prog.lift (.customCall (Pipeline.entry 0) ()) ] : Prog (TpuEff nD τ sig (Elt F) (Pipeline.Sig Λ₀ (Fin 1) fun p => (pcfgs (F := F) p).Adm) .tc) PUnit) := by
  rewrite [StableHlo.chain_seq_cons, Pipeline.chain_cons]
  chain_rfl

/-- `main_chain` with each call that gives several items as one item, so that every statement has its own item. -/
theorem main_chain_calls (c : Dev nD) : main (F := F) c = (Pipeline.chain
  [ fn_kernel.body (F := F) (.of main_arg0) (.of main_arg1) (.of main_arg2) (.of main_arg3) (.of main_arg4) (.of main_arg5) (.of main_arg6) (.of main_arg7) (.of main_arg8) (.of main_arg9) (.of main_arg10) (.of main_arg11) (.of main_arg12) (.of main_arg13) main_call0 ] : Prog (TpuEff nD τ sig (Elt F) (Pipeline.Sig Λ₀ (Fin 1) fun p => (pcfgs (F := F) p).Adm) .tc) PUnit) := by
  rewrite [Pipeline.chain_cons]
  chain_rfl

/-- `main` is the chain of its items (`Pipeline.chain`): operation stretches, regions, loops and branches in
    order, a module-local function called from it a stretch of its own or several items. It follows from
    `main_chain_calls`, in which each call that gives several items is one item, and from each such call's own chain, by
    the monad laws. -/
theorem main_chain (c : Dev nD) : main (F := F) c = (Pipeline.chain
  [ StableHlo.seq hostOps0,
    Prog.lift (.customCall (Pipeline.entry 0) ()) ] : Prog (TpuEff nD τ sig (Elt F) (Pipeline.Sig Λ₀ (Fin 1) fun p => (pcfgs (F := F) p).Adm) .tc) PUnit) := by
  rewrite [main_chain_calls, main_chain_main_call0]
  simp only [Pipeline.chain, Pipeline.chainK, bind_assoc, pure_bind, bind_pure_unit]

end Cert.KernelIdeal.Hand

end
-- ==== Proof.Kit.lean ====
/-
  The kernel's program up to its one region: what the core's buffers hold there, and that the arguments are
  as launched.
-/
module

public import proofs.«01_k».proof.Proof.Launch
public import proofs.«01_k».proof.Proof.Gen.KernelIdeal.Points
public import Idealize.ShloMosaic.Lib.Pipeline.Frame
public import Idealize.ShloMosaic.Lib.Pipeline.FrameBody
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

/-- Core `c`'s buffers when the region is entered: after the host operations. -/
abbrev V (c : Dev nD) (b : Ref sig .tc) : Buf (Elt F) ((c : Thread nD τ).loc b) := StableHlo.after hostOps0 (fun b => m (c, b)) b

/-- No host operation frees a buffer. -/
theorem hostOps0_fresh : (hostOps0 : List (HloOp τ sig (Elt F))).Forall fun op => op.fresh = ∅ := by
  simp only [List.Forall]; repeat' constructor

set_option maxHeartbeats 1600000 in
/-- `main` runs its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

set_option maxHeartbeats 1600000 in
/-- The buffers that the host operations write are the intermediate ones: one that is none of them is as launched. -/
theorem V_of (c : Dev nD) (b : Ref sig .tc)
    (hb : ∀ x ∈ [main_call0_v0, main_call0_v1, main_call0_v2, main_call0_v3, main_call0_v4, main_call0_v5, main_call0_v6, main_call0_v7,
      main_call0_v8, main_call0_v9, main_call0_v10, main_call0_v11, main_call0_v12, main_call0_v13, main_call0_v14, main_call0_v15,
      main_call0_v16, main_call0_v17, main_call0_v18, main_call0_v19, main_call0_v20, main_call0_v21, main_call0_v22, main_call0_v23,
      main_call0_v24, main_call0_v25, main_call0_v26, main_call0_v27, main_call0_v28, main_call0_v29, main_call0_v30, main_call0_v31,
      main_call0_v32, main_call0_v33, main_call0_v34, main_call0_v35, main_call0_v36], b ≠ x) :
    V m c b = m ((c : Thread nD τ).loc b) :=
  StableHlo.after_of_forall_not_mem (b := Proc.devRef .tc b) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (hb _ (by simp))))

/-- The arguments are as launched when the region is entered. -/
theorem V_arg (c : Dev nD) : ∀ b ∈ [main_arg0, main_arg1, main_arg2, main_arg3, main_arg4, main_arg5, main_arg6, main_arg7, main_arg8,
    main_arg9, main_arg10, main_arg11, main_arg12, main_arg13], V m c b = m ((c : Thread nD τ).loc b) :=
  fun b hb => V_of m c b (by revert b; decide)

end Cert.KernelIdeal.Hand

end
-- ==== Proof.Own.lean ====
/-
  The body of the kernel on buffers that hold given blocks: the four scratch buffers go from one state to the next,
  and the last grid point stores the results.
-/
module

public import proofs.«01_k».proof.Proof.Steps
public import proofs.«01_k».proof.Proof.Kit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig Unit (Elt F) ℕ (UR sig nD τ) ℕ

/-- Owning a whole memory reference that reads `X` is owning its buffer at the contents that read so. -/
theorem owns_eq_pt (c : Dev nD) {sp : Space} {S : Shape} {e : EltTy} (M : Memref sig .tc sp S e) (h : M.IsWhole)
    (X : S.Idx → Elt F e) :
    (owns (c : Thread nD τ) M fullShare X : sProp 𝕄) = pt c M (h.unread X) := by
  have hs : M.view.set = Finset.univ := h.set_eq_univ
  unfold owns; rw [hs]
  have h₁ : iprop(∃ f, ⌜M.view.read (Elt F) f = X⌝ ∗ (M.view.loc (c : Thread nD τ) ↦{fullShare} f))
      ⊢ (pt c M (h.unread X) : sProp 𝕄) := by
    iintro ⟨%f, %hf, H⟩
    obtain rfl := h.eq_unread hf
    iexact H
  have h₂ : (pt c M (h.unread X) : sProp 𝕄)
      ⊢ iprop(∃ f, ⌜M.view.read (Elt F) f = X⌝ ∗ (M.view.loc (c : Thread nD τ) ↦{fullShare} f)) := by
    iintro H
    iexists (h.unread X)
    isplitr
    · ipureintro; exact h.read_unread X
    iexact H
  exact BI.equiv_iff.mp ⟨h₁, h₂⟩

variable (c : Dev nD) (i : grid0.Coords)
  (M2 : Memref sig .tc .vmem S1x512x2048 .f32) (h2 : M2.IsWhole)
  (M3 : Memref sig .tc .vmem S2048x4608 .bf16) (h3 : M3.IsWhole)
  (M4 : Memref sig .tc .vmem S1x4608 .f32) (h4 : M4.IsWhole)
  (M5 : Memref sig .tc .vmem S8x512x384 .f32) (h5 : M5.IsWhole)
  (M6 : Memref sig .tc .vmem S8x512x384 .f32) (h6 : M6.IsWhole)
  (M7 : Memref sig .tc .vmem S8x384 .f32) (h7 : M7.IsWhole)
  (M8 : Memref sig .tc .vmem S512x8 .f32) (h8 : M8.IsWhole)
  (M9 : Memref sig .tc .vmem S8 .f32) (h9 : M9.IsWhole)
  (M10 : Memref sig .tc .vmem S8x512x64 .f32) (h10 : M10.IsWhole)
  (M11 : Memref sig .tc .vmem S8x64 .f32) (h11 : M11.IsWhole)
  (M12 : Memref sig .tc .vmem S8x64x10 .f32) (h12 : M12.IsWhole)
  (M13 : Memref sig .tc .vmem S8x10 .f32) (h13 : M13.IsWhole)
  (M14 : Memref sig .tc .vmem S4x64 .f32) (h14 : M14.IsWhole)
  (M15 : Memref sig .tc .vmem S4x10 .f32) (h15 : M15.IsWhole)
  (M16 : Memref sig .tc .vmem S4x8 .f32) (h16 : M16.IsWhole)
  (M17 : Memref sig .tc .vmem S8x512x768 .bf16) (h17 : M17.IsWhole)
  (M18 : Memref sig .tc .vmem S4x512 .f32) (h18 : M18.IsWhole)
  (M19 : Memref sig .tc .vmem S32x512 .f32) (h19 : M19.IsWhole)
  (M20 : Memref sig .tc .vmem S32x128 .f32) (h20 : M20.IsWhole)
  (X2 : S1x512x2048.Idx → Elt F .f32)
  (X3 : S2048x4608.Idx → Elt F .bf16)
  (X4 : S1x4608.Idx → Elt F .f32)
  (X5 : S8x512x384.Idx → Elt F .f32)
  (X6 : S8x512x384.Idx → Elt F .f32)
  (X7 : S8x384.Idx → Elt F .f32)
  (X8 : S512x8.Idx → Elt F .f32)
  (X9 : S8.Idx → Elt F .f32)
  (X10 : S8x512x64.Idx → Elt F .f32)
  (X11 : S8x64.Idx → Elt F .f32)
  (X12 : S8x64x10.Idx → Elt F .f32)
  (X13 : S8x10.Idx → Elt F .f32)
  (X14 : S4x64.Idx → Elt F .f32)
  (X15 : S4x10.Idx → Elt F .f32)
  (X16 : S4x8.Idx → Elt F .f32)

/-- The body, at grid point `i`, on inputs that hold `X2 … X13`, leaves the results `Y14`, `Y15`, `Y16` where `X14`,
`X15`, `X16` were, and steps the scratch buffers' state from `s` to `s'`. -/
abbrev BodyStep (Y14 : S4x64.Idx → Elt F .f32) (Y15 : S4x10.Idx → Elt F .f32) (Y16 : S4x8.Idx → Elt F .f32) (s s' : St F) : Prop :=
  BodyRun c i
    M2 h2 M3 h3 M4 h4 M5 h5 M6 h6 M7 h7 M8 h8 M9 h9 M10 h10 M11 h11 M12 h12 M13 h13 M14 h14 M15 h15 M16
    h16 M17 h17 M18 h18 M19 h19 M20 h20
    (h2.unread X2) (h3.unread X3) (h4.unread X4) (h5.unread X5) (h6.unread X6) (h7.unread X7) (h8.unread
    X8) (h9.unread X9) (h10.unread X10) (h11.unread X11) (h12.unread X12) (h13.unread X13) (h14.unread
    X14) (h15.unread X15) (h16.unread X16) (h17.unread s.vaub) (h18.unread s.rsum) (h19.unread s.psum)
    (h20.unread s.zsum)
    (h2.unread X2) (h3.unread X3) (h4.unread X4) (h5.unread X5) (h6.unread X6) (h7.unread X7) (h8.unread
    X8) (h9.unread X9) (h10.unread X10) (h11.unread X11) (h12.unread X12) (h13.unread X13) (h14.unread
    Y14) (h15.unread Y15) (h16.unread Y16) (h17.unread s'.vaub) (h18.unread s'.rsum) (h19.unread
    s'.psum) (h20.unread s'.zsum)

variable {c i M2 h2 M3 h3 M4 h4 M5 h5 M6 h6 M7 h7 M8 h8 M9 h9 M10 h10 M11 h11 M12 h12 M13 h13 M14 h14 M15 h15 M16 h16 M17 h17 M18 h18 M19 h19 M20 h20 X2 X3 X4 X5 X6 X7 X8 X9 X10 X11 X12 X13 X14 X15 X16}

/-- Contents that read so are the contents that read so. -/
theorem BodyStep.of_reads {s s' : St F} {Y14 : S4x64.Idx → Elt F .f32} {Y15 : S4x10.Idx → Elt F .f32} {Y16 : S4x8.Idx → Elt F .f32}
  (g14 : Bf (F := F) c M14) (g15 : Bf (F := F) c M15) (g16 : Bf (F := F) c M16)
  (g17 : Bf (F := F) c M17) (g18 : Bf (F := F) c M18) (g19 : Bf (F := F) c M19) (g20 : Bf (F := F) c M20)
  (hrun : BodyRun c i
    M2 h2 M3 h3 M4 h4 M5 h5 M6 h6 M7 h7 M8 h8 M9 h9 M10 h10 M11 h11 M12 h12 M13 h13 M14 h14 M15 h15 M16
    h16 M17 h17 M18 h18 M19 h19 M20 h20
    (h2.unread X2) (h3.unread X3) (h4.unread X4) (h5.unread X5) (h6.unread X6) (h7.unread X7) (h8.unread
    X8) (h9.unread X9) (h10.unread X10) (h11.unread X11) (h12.unread X12) (h13.unread X13) (h14.unread
    X14) (h15.unread X15) (h16.unread X16) (h17.unread s.vaub) (h18.unread s.rsum) (h19.unread s.psum)
    (h20.unread s.zsum)
    (h2.unread X2) (h3.unread X3) (h4.unread X4) (h5.unread X5) (h6.unread X6) (h7.unread X7) (h8.unread
    X8) (h9.unread X9) (h10.unread X10) (h11.unread X11) (h12.unread X12) (h13.unread X13) g14 g15 g16
    g17 g18 g19 g20)
  (e14 : M14.view.read (Elt F) g14 = Y14) (e15 : M15.view.read (Elt F) g15 = Y15) (e16 : M16.view.read (Elt F) g16 = Y16)
  (es : (⟨M17.view.read (Elt F) g17, M18.view.read (Elt F) g18, M19.view.read (Elt F) g19, M20.view.read (Elt F) g20⟩ : St F) = s') :
    BodyStep c i
      M2 h2 M3 h3 M4 h4 M5 h5 M6 h6 M7 h7 M8 h8 M9 h9 M10 h10 M11 h11 M12 h12 M13 h13 M14 h14 M15 h15 M16
      h16 M17 h17 M18 h18 M19 h19 M20 h20
      X2 X3 X4 X5 X6 X7 X8 X9 X10 X11 X12 X13 X14 X15 X16 Y14 Y15 Y16 s s' := by
  obtain rfl := h14.eq_unread e14
  obtain rfl := h15.eq_unread e15
  obtain rfl := h16.eq_unread e16
  obtain rfl := h17.eq_unread (congrArg St.vaub es)
  obtain rfl := h18.eq_unread (congrArg St.rsum es)
  obtain rfl := h19.eq_unread (congrArg St.psum es)
  obtain rfl := h20.eq_unread (congrArg St.zsum es)
  exact hrun

/-- The loads of a whole buffer read its contents. -/
theorem stepOf_unread (s : St F) :
    stepOf c i M2 M3 M4 M7 (h2.unread X2) (h3.unread X3) (h4.unread X4) (h7.unread X7) s = s.step (i 0).val X2 X3 X4 X7 := by
  have e2 : ld2 c M2 (h2.unread X2) = X2 := (View.readAt_full ..).trans (h2.read_unread X2)
  have e3 : ld3 c M3 (h3.unread X3) = X3 := (View.readAt_full ..).trans (h3.read_unread X3)
  have e4 : ld4 c M4 (h4.unread X4) = X4 := (View.readAt_full ..).trans (h4.read_unread X4)
  unfold stepOf
  rw [e2, e3, e4, h7.read_unread]

/-- The scratch buffers at the contents of a state hold it. -/
theorem stOf_unread (s : St F) :
    stOf c M17 M18 M19 M20 (h17.unread s.vaub) (h18.unread s.rsum) (h19.unread s.psum) (h20.unread s.zsum) = s := by
  unfold stOf
  rw [h17.read_unread, h18.read_unread, h19.read_unread, h20.read_unread]

/-- The first grid point steps the first state, whatever the scratch buffers held. -/
theorem body_first (hc1 : first i) (hc2 : ¬ last i) (s : St F) :
    BodyStep c i
      M2 h2 M3 h3 M4 h4 M5 h5 M6 h6 M7 h7 M8 h8 M9 h9 M10 h10 M11 h11 M12 h12 M13 h13 M14 h14 M15 h15 M16
      h16 M17 h17 M18 h18 M19 h19 M20 h20
      X2 X3 X4 X5 X6 X7 X8 X9 X10 X11 X12 X13 X14 X15 X16 X14 X15 X16 s ((St.init X5 X6).step (i 0).val X2 X3 X4 X7) :=
  BodyStep.of_reads _ _ _ _ _ _ _ (runA c i
      M2 h2 M3 h3 M4 h4 M5 h5 M6 h6 M7 h7 M8 h8 M9 h9 M10 h10 M11 h11 M12 h12 M13 h13 M14 h14 M15 h15 M16
      h16 M17 h17 M18 h18 M19 h19 M20 h20
      (h2.unread X2) (h3.unread X3) (h4.unread X4) (h5.unread X5) (h6.unread X6) (h7.unread X7) (h8.unread
      X8) (h9.unread X9) (h10.unread X10) (h11.unread X11) (h12.unread X12) (h13.unread X13) (h14.unread
      X14) (h15.unread X15) (h16.unread X16) (h17.unread s.vaub) (h18.unread s.rsum) (h19.unread s.psum)
      (h20.unread s.zsum) hc1 hc2).2
    (h14.read_unread X14) (h15.read_unread X15) (h16.read_unread X16)
    ((runA_state c i
      M2 h2 M3 h3 M4 h4 M5 h5 M6 h6 M7 h7 M8 h8 M9 h9 M10 h10 M11 h11 M12 h12 M13 h13 M14 h14 M15 h15 M16
      h16 M17 h17 M18 h18 M19 h19 M20 h20
      (h2.unread X2) (h3.unread X3) (h4.unread X4) (h5.unread X5) (h6.unread X6) (h7.unread X7) (h8.unread
      X8) (h9.unread X9) (h10.unread X10) (h11.unread X11) (h12.unread X12) (h13.unread X13) (h14.unread
      X14) (h15.unread X15) (h16.unread X16) (h17.unread s.vaub) (h18.unread s.rsum) (h19.unread s.psum)
      (h20.unread s.zsum) hc1 hc2).trans (by
      rw [stepOf_unread]; unfold initOf; rw [h5.read_unread, h6.read_unread]))

/-- A grid point between steps the state. -/
theorem body_mid (hc1 : ¬ first i) (hc2 : ¬ last i) (s : St F) :
    BodyStep c i
      M2 h2 M3 h3 M4 h4 M5 h5 M6 h6 M7 h7 M8 h8 M9 h9 M10 h10 M11 h11 M12 h12 M13 h13 M14 h14 M15 h15 M16
      h16 M17 h17 M18 h18 M19 h19 M20 h20
      X2 X3 X4 X5 X6 X7 X8 X9 X10 X11 X12 X13 X14 X15 X16 X14 X15 X16 s (s.step (i 0).val X2 X3 X4 X7) :=
  BodyStep.of_reads _ _ _ _ _ _ _ (runB c i
      M2 h2 M3 h3 M4 h4 M5 h5 M6 h6 M7 h7 M8 h8 M9 h9 M10 h10 M11 h11 M12 h12 M13 h13 M14 h14 M15 h15 M16
      h16 M17 h17 M18 h18 M19 h19 M20 h20
      (h2.unread X2) (h3.unread X3) (h4.unread X4) (h5.unread X5) (h6.unread X6) (h7.unread X7) (h8.unread
      X8) (h9.unread X9) (h10.unread X10) (h11.unread X11) (h12.unread X12) (h13.unread X13) (h14.unread
      X14) (h15.unread X15) (h16.unread X16) (h17.unread s.vaub) (h18.unread s.rsum) (h19.unread s.psum)
      (h20.unread s.zsum) hc1 hc2).2
    (h14.read_unread X14) (h15.read_unread X15) (h16.read_unread X16)
    ((runB_state c i
      M2 h2 M3 h3 M4 h4 M5 h5 M6 h6 M7 h7 M8 h8 M9 h9 M10 h10 M11 h11 M12 h12 M13 h13 M14 h14 M15 h15 M16
      h16 M17 h17 M18 h18 M19 h19 M20 h20
      (h2.unread X2) (h3.unread X3) (h4.unread X4) (h5.unread X5) (h6.unread X6) (h7.unread X7) (h8.unread
      X8) (h9.unread X9) (h10.unread X10) (h11.unread X11) (h12.unread X12) (h13.unread X13) (h14.unread
      X14) (h15.unread X15) (h16.unread X16) (h17.unread s.vaub) (h18.unread s.rsum) (h19.unread s.psum)
      (h20.unread s.zsum) hc1 hc2).trans (by rw [stepOf_unread, stOf_unread]))

/-- The last grid point steps the state and stores the three results of the stepped state. -/
theorem body_last (hc1 : ¬ first i) (hc2 : last i) (s : St F) :
    BodyStep c i
      M2 h2 M3 h3 M4 h4 M5 h5 M6 h6 M7 h7 M8 h8 M9 h9 M10 h10 M11 h11 M12 h12 M13 h13 M14 h14 M15 h15 M16
      h16 M17 h17 M18 h18 M19 h19 M20 h20
      X2 X3 X4 X5 X6 X7 X8 X9 X10 X11 X12 X13 X14 X15 X16
      ((s.step (i 0).val X2 X3 X4 X7).lat X8 X9 X10 X11) ((s.step (i 0).val X2 X3 X4 X7).logits X8 X9 X10 X11 X12 X13)
      ((s.step (i 0).val X2 X3 X4 X7).gates X8 X9) s (s.step (i 0).val X2 X3 X4 X7) :=
  have e8 : ld8 c M8 (h8.unread X8) = X8 := (View.readAt_full ..).trans (h8.read_unread X8)
  have e9 : ld9 c M9 (h9.unread X9) = X9 := (View.readAt_full ..).trans (h9.read_unread X9)
  have ee := (endOf_eq c i
      M2 h2 M3 h3 M4 h4 M5 h5 M6 h6 M7 h7 M8 h8 M9 h9 M10 h10 M11 h11 M12 h12 M13 h13 M14 h14 M15 h15 M16
      h16 M17 h17 M18 h18 M19 h19 M20 h20
      (h2.unread X2) (h3.unread X3) (h4.unread X4) (h5.unread X5) (h6.unread X6) (h7.unread X7) (h8.unread
      X8) (h9.unread X9) (h10.unread X10) (h11.unread X11) (h12.unread X12) (h13.unread X13) (h14.unread
      X14) (h15.unread X15) (h16.unread X16) (h17.unread s.vaub) (h18.unread s.rsum) (h19.unread s.psum)
      (h20.unread s.zsum) hc1 hc2).trans
    (show _ = s.step (i 0).val X2 X3 X4 X7 by rw [stepOf_unread, stOf_unread])
  BodyStep.of_reads _ _ _ _ _ _ _ (runC c i
      M2 h2 M3 h3 M4 h4 M5 h5 M6 h6 M7 h7 M8 h8 M9 h9 M10 h10 M11 h11 M12 h12 M13 h13 M14 h14 M15 h15 M16
      h16 M17 h17 M18 h18 M19 h19 M20 h20
      (h2.unread X2) (h3.unread X3) (h4.unread X4) (h5.unread X5) (h6.unread X6) (h7.unread X7) (h8.unread
      X8) (h9.unread X9) (h10.unread X10) (h11.unread X11) (h12.unread X12) (h13.unread X13) (h14.unread
      X14) (h15.unread X15) (h16.unread X16) (h17.unread s.vaub) (h18.unread s.rsum) (h19.unread s.psum)
      (h20.unread s.zsum) hc1 hc2).2
    ((runC_lat c i
      M2 h2 M3 h3 M4 h4 M5 h5 M6 h6 M7 h7 M8 h8 M9 h9 M10 h10 M11 h11 M12 h12 M13 h13 M14 h14 M15 h15 M16
      h16 M17 h17 M18 h18 M19 h19 M20 h20
      (h2.unread X2) (h3.unread X3) (h4.unread X4) (h5.unread X5) (h6.unread X6) (h7.unread X7) (h8.unread
      X8) (h9.unread X9) (h10.unread X10) (h11.unread X11) (h12.unread X12) (h13.unread X13) (h14.unread
      X14) (h15.unread X15) (h16.unread X16) (h17.unread s.vaub) (h18.unread s.rsum) (h19.unread s.psum)
      (h20.unread s.zsum) hc1 hc2).trans (by
      rw [ee, e8, e9, h10.read_unread, h11.read_unread]))
    ((runC_logits c i
      M2 h2 M3 h3 M4 h4 M5 h5 M6 h6 M7 h7 M8 h8 M9 h9 M10 h10 M11 h11 M12 h12 M13 h13 M14 h14 M15 h15 M16
      h16 M17 h17 M18 h18 M19 h19 M20 h20
      (h2.unread X2) (h3.unread X3) (h4.unread X4) (h5.unread X5) (h6.unread X6) (h7.unread X7) (h8.unread
      X8) (h9.unread X9) (h10.unread X10) (h11.unread X11) (h12.unread X12) (h13.unread X13) (h14.unread
      X14) (h15.unread X15) (h16.unread X16) (h17.unread s.vaub) (h18.unread s.rsum) (h19.unread s.psum)
      (h20.unread s.zsum) hc1 hc2).trans (by
      rw [ee, e8, e9, h10.read_unread, h11.read_unread, h12.read_unread, h13.read_unread]))
    ((runC_gates c i
      M2 h2 M3 h3 M4 h4 M5 h5 M6 h6 M7 h7 M8 h8 M9 h9 M10 h10 M11 h11 M12 h12 M13 h13 M14 h14 M15 h15 M16
      h16 M17 h17 M18 h18 M19 h19 M20 h20
      (h2.unread X2) (h3.unread X3) (h4.unread X4) (h5.unread X5) (h6.unread X6) (h7.unread X7) (h8.unread
      X8) (h9.unread X9) (h10.unread X10) (h11.unread X11) (h12.unread X12) (h13.unread X13) (h14.unread
      X14) (h15.unread X15) (h16.unread X16) (h17.unread s.vaub) (h18.unread s.rsum) (h19.unread s.psum)
      (h20.unread s.zsum) hc1 hc2).trans (by rw [ee, e8, e9]))
    ((runC_state c i
      M2 h2 M3 h3 M4 h4 M5 h5 M6 h6 M7 h7 M8 h8 M9 h9 M10 h10 M11 h11 M12 h12 M13 h13 M14 h14 M15 h15 M16
      h16 M17 h17 M18 h18 M19 h19 M20 h20
      (h2.unread X2) (h3.unread X3) (h4.unread X4) (h5.unread X5) (h6.unread X6) (h7.unread X7) (h8.unread
      X8) (h9.unread X9) (h10.unread X10) (h11.unread X11) (h12.unread X12) (h13.unread X13) (h14.unread
      X14) (h15.unread X15) (h16.unread X16) (h17.unread s.vaub) (h18.unread s.rsum) (h19.unread s.psum)
      (h20.unread s.zsum) hc1 hc2).trans (by rw [stepOf_unread, stOf_unread]))

end Cert.KernelIdeal.Hand

end
-- ==== Proof.Frame.lean ====
/-
  The launch: the state of the scratch buffers before each grid point, the proof data of the pipeline, the body's
  obligation at every point, and the run of the whole program.
-/
module

public import proofs.«01_k».proof.Proof.Own

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F] [∀ e, Nonempty (Elt F e)]
variable (m : (ℓ : Loc nD τ sig) → Buf (Elt F) ℓ) (g : Dev nD → PrngReg)

local notation "𝕄" => MT nD τ sig Unit (Elt F) ℕ (UR sig nD τ) ℕ

/-- The block of window `w`'s array at grid point `t`, as the region finds it. -/
abbrev xin (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The state stepped by grid point `t`'s block. -/
def stepAt (c : Dev nD) (t : Fin cfg0.N) (s : St F) : St F :=
  s.step (grid0.coords t 0).val (xin m c 0 t) (xin m c 1 t) (xin m c 2 t) (xin m c 5 t)

/-- The state that the first grid point starts from. -/
def start (c : Dev nD) : St F := St.init (xin m c 3 ⟨0, by decide⟩) (xin m c 4 ⟨0, by decide⟩)

/-- The scratch buffers' state before grid point `n`. -/
def state (c : Dev nD) : ℕ → St F
  | 0 => start m c
  | n + 1 => if h : n < cfg0.N then stepAt m c ⟨n, h⟩ (state c n) else state c n

theorem state_zero (c : Dev nD) : state m c 0 = start m c := rfl

theorem state_succ (c : Dev nD) (t : Fin cfg0.N) : state m c (t.val + 1) = stepAt m c t (state m c t.val) := by
  rw [state, dif_pos t.isLt]

attribute [irreducible] state stepAt start

/-- The state after the last grid point. -/
abbrev final (c : Dev nD) : St F := state m c 16

abbrev tLast : Fin cfg0.N := ⟨15, by decide⟩

/-- The three results. -/
def res12 (c : Dev nD) : S4x64.Idx → Elt F .f32 :=
  (final m c).lat (xin m c 6 tLast) (xin m c 7 tLast) (xin m c 8 tLast) (xin m c 9 tLast)
def res13 (c : Dev nD) : S4x10.Idx → Elt F .f32 :=
  (final m c).logits (xin m c 6 tLast) (xin m c 7 tLast) (xin m c 8 tLast) (xin m c 9 tLast) (xin m c 10 tLast) (xin m c 11 tLast)
def res14 (c : Dev nD) : S4x8.Idx → Elt F .f32 := (final m c).gates (xin m c 6 tLast) (xin m c 7 tLast)

attribute [irreducible] res12 res13 res14

/-- The scratch buffers hold state `s`. -/
def scr (c : Dev nD) (s : St F) : sProp 𝕄 :=
  iprop(owns (c : Thread nD τ) (Memref.whole cc0_scratch0) fullShare s.vaub ∗ owns (c : Thread nD τ) (Memref.whole cc0_scratch1) fullShare s.rsum
    ∗ owns (c : Thread nD τ) (Memref.whole cc0_scratch2) fullShare s.psum ∗ owns (c : Thread nD τ) (Memref.whole cc0_scratch3) fullShare s.zsum)

/-- Before grid point `n` the scratch buffers hold the state there; before the first one, anything. -/
def inv (c : Dev nD) (n : ℕ) : sProp 𝕄 :=
  iprop((∃ s : St F, ⌜0 < n → s = state m c n⌝ ∗ scr c s) ∗ ∃ r, prngReg c r)

/-- What the body may leave in window `w`'s buffer at point `t`, of what it found: the same, except that the last
point leaves the results. -/
def aft (c : Dev nD) (w : Fin cfg0.W) (t : Fin cfg0.N) (Y X : (cfg0.win w).block.Idx → Elt F (cfg0.win w).elt) : Prop :=
  match w, Y, X with
  | ⟨12, _⟩, _, X => t.val = 15 → X = res12 m c
  | ⟨13, _⟩, _, X => t.val = 15 → X = res13 m c
  | ⟨14, _⟩, _, X => t.val = 15 → X = res14 m c
  | ⟨_, _⟩, Y, X => X = Y

/-- The pipeline's proof data. -/
def rdat (c : Dev nD) : Pipeline.RDat τ (Elt F) Unit ℕ (UR sig nD τ) ℕ cfg0 c where
  A w := V m c (Pipeline.arrRef spec0 w)
  after := aft m c
  Φ t := inv m c t.val
  q _ := fullShare
  owed _ := 0

/-- An input window's buffer holds its block. -/
theorem finds_in (c : Dev nD) (w : Fin cfg0.W) (hw : (cfg0.win w).isOut = false)
    (hclip : ∀ t t' : Fin cfg0.N, (cfg0.win w).index t = (cfg0.win w).index t' →
      (cfg0.win w).clip (cfg0.grid.coords t) = (cfg0.win w).clip (cfg0.grid.coords t'))
    (hkeep : ∀ t Y X, aft m c w t Y X → X = Y) (t : Fin cfg0.N) (Y : (cfg0.win w).block.Idx → Elt F (cfg0.win w).elt)
    (hY : (rdat m c).Finds w t Y) : ∃ d, Y = (rdat m c).fetched w t d :=
  (rdat m c).finds_in_eq_fetched w hw hclip hkeep t Y hY

/-- Which grid points the body's two tests single out. -/
theorem first_iff : ∀ t : Fin cfg0.N, first (grid0.coords t) ↔ t.val = 0 := by decide +kernel
theorem last_iff : ∀ t : Fin cfg0.N, last (grid0.coords t) ↔ t.val = 15 := by decide +kernel

/-- The body's run at grid point `t`: the results after it are those of the last state if `t` is the last point,
else what they were, and the state after it is the next one. -/
theorem body_step (c : Dev nD) (t : Fin cfg0.N) (s : St F) (hs : 0 < t.val → s = state m c t.val)
    (X14 : S4x64.Idx → Elt F .f32) (X15 : S4x10.Idx → Elt F .f32) (X16 : S4x8.Idx → Elt F .f32) :
    ∃ (Y14 : S4x64.Idx → Elt F .f32) (Y15 : S4x10.Idx → Elt F .f32) (Y16 : S4x8.Idx → Elt F .f32),
      (t.val = 15 → Y14 = res12 m c) ∧ (t.val = 15 → Y15 = res13 m c) ∧ (t.val = 15 → Y16 = res14 m c) ∧
      BodyStep c (grid0.coords t)
      (win0_0.stage (cfg0.slots t 0)) (hstage0_0 ((cfg0.slots t 0).cast nbuf0_0)) (win0_1.stage (cfg0.slots t 1))
      (hstage0_1 ((cfg0.slots t 1).cast nbuf0_1)) (win0_2.stage (cfg0.slots t 2))
      (hstage0_2 ((cfg0.slots t 2).cast nbuf0_2)) (win0_3.stage (cfg0.slots t 3))
      (hstage0_3 ((cfg0.slots t 3).cast nbuf0_3)) (win0_4.stage (cfg0.slots t 4))
      (hstage0_4 ((cfg0.slots t 4).cast nbuf0_4)) (win0_5.stage (cfg0.slots t 5))
      (hstage0_5 ((cfg0.slots t 5).cast nbuf0_5)) (win0_6.stage (cfg0.slots t 6))
      (hstage0_6 ((cfg0.slots t 6).cast nbuf0_6)) (win0_7.stage (cfg0.slots t 7))
      (hstage0_7 ((cfg0.slots t 7).cast nbuf0_7)) (win0_8.stage (cfg0.slots t 8))
      (hstage0_8 ((cfg0.slots t 8).cast nbuf0_8)) (win0_9.stage (cfg0.slots t 9))
      (hstage0_9 ((cfg0.slots t 9).cast nbuf0_9)) (win0_10.stage (cfg0.slots t 10))
      (hstage0_10 ((cfg0.slots t 10).cast nbuf0_10)) (win0_11.stage (cfg0.slots t 11))
      (hstage0_11 ((cfg0.slots t 11).cast nbuf0_11)) (win0_12.stage (cfg0.slots t 12))
      (hstage0_12 ((cfg0.slots t 12).cast nbuf0_12)) (win0_13.stage (cfg0.slots t 13))
      (hstage0_13 ((cfg0.slots t 13).cast nbuf0_13)) (win0_14.stage (cfg0.slots t 14))
      (hstage0_14 ((cfg0.slots t 14).cast nbuf0_14)) (Memref.whole cc0_scratch0) (Memref.isWhole_whole _)
      (Memref.whole cc0_scratch1) (Memref.isWhole_whole _) (Memref.whole cc0_scratch2) (Memref.isWhole_whole _)
      (Memref.whole cc0_scratch3) (Memref.isWhole_whole _)
      (xin m c 0 t) (xin m c 1 t) (xin m c 2 t) (xin m c 3 t) (xin m c 4 t) (xin m c 5 t) (xin m c 6 t)
      (xin m c 7 t) (xin m c 8 t) (xin m c 9 t) (xin m c 10 t) (xin m c 11 t) X14 X15 X16 Y14 Y15 Y16
        s (state m c (t.val + 1)) := by
  rw [state_succ]
  by_cases h0 : t.val = 0
  · have hne : t.val ≠ 15 := by omega
    refine ⟨X14, X15, X16, fun h => absurd h hne, fun h => absurd h hne, fun h => absurd h hne, ?_⟩
    obtain rfl : t = ⟨0, by decide⟩ := Fin.ext h0
    rw [state_zero]
    unfold stepAt start
    exact body_first ((first_iff _).mpr h0) (fun h => hne ((last_iff _).mp h)) s
  · obtain rfl := hs (Nat.pos_of_ne_zero h0)
    by_cases h15 : t.val = 15
    · refine ⟨res12 m c, res13 m c, res14 m c, fun _ => rfl, fun _ => rfl, fun _ => rfl, ?_⟩
      obtain rfl : t = tLast := Fin.ext h15
      unfold res12 res13 res14
      rw [show final m c = stepAt m c tLast (state m c tLast.val) from state_succ m c tLast]
      unfold stepAt
      exact body_last (fun h => h0 ((first_iff _).mp h)) ((last_iff _).mpr h15) _
    · refine ⟨X14, X15, X16, fun h => absurd h h15, fun h => absurd h h15, fun h => absurd h h15, ?_⟩
      unfold stepAt
      exact body_mid (fun h => h0 ((first_iff _).mp h)) (fun h => h15 ((last_iff _).mp h)) _

/-- The body table's row at the point is the body as the point's term spells it. -/
theorem defs₀_row (t : Fin cfg0.N) : defs₀ (F := F) .tc cfg0.body (cfg0.bodyArgs t (cfg0.slots t)) = bodyAt0 t := by
  unfold defs₀; rw [Defs.onTc_tc]

set_option maxHeartbeats 4000000 in
/-- The input windows' buffers hold their blocks. -/
theorem finds_blocks (c : Dev nD) (t : Fin cfg0.N) (Y : (w : Fin cfg0.W) → (cfg0.win w).block.Idx → Elt F (cfg0.win w).elt)
    (hY : ∀ w, (rdat m c).Finds w t (Y w)) :
    Y 0 = xin m c 0 t ∧ Y 1 = xin m c 1 t ∧ Y 2 = xin m c 2 t ∧ Y 3 = xin m c 3 t ∧ Y 4 = xin m c 4 t ∧ Y 5 = xin m c 5 t ∧ Y 6 = xin m c 6 t ∧ Y 7 = xin m c 7 t ∧ Y 8 = xin m c 8 t ∧ Y 9 = xin m c 9 t ∧ Y 10 = xin m c 10 t ∧ Y 11 = xin m c 11 t := by
  refine ⟨?_, ?_, ?_, ?_, ?_, ?_, ?_, ?_, ?_, ?_, ?_, ?_⟩
  · obtain ⟨d, hd⟩ := finds_in m c 0 rfl (fun _ _ _ => rfl) (fun _ _ _ h => h) t _ (hY 0); exact hd
  · obtain ⟨d, hd⟩ := finds_in m c 1 rfl (fun _ _ _ => rfl) (fun _ _ _ h => h) t _ (hY 1); exact hd
  · obtain ⟨d, hd⟩ := finds_in m c 2 rfl (fun _ _ _ => rfl) (fun _ _ _ h => h) t _ (hY 2); exact hd
  · obtain ⟨d, hd⟩ := finds_in m c 3 rfl (fun _ _ _ => rfl) (fun _ _ _ h => h) t _ (hY 3); exact hd
  · obtain ⟨d, hd⟩ := finds_in m c 4 rfl (fun _ _ _ => rfl) (fun _ _ _ h => h) t _ (hY 4); exact hd
  · obtain ⟨d, hd⟩ := finds_in m c 5 rfl (fun _ _ _ => rfl) (fun _ _ _ h => h) t _ (hY 5); exact hd
  · obtain ⟨d, hd⟩ := finds_in m c 6 rfl (fun _ _ _ => rfl) (fun _ _ _ h => h) t _ (hY 6); exact hd
  · obtain ⟨d, hd⟩ := finds_in m c 7 rfl (fun _ _ _ => rfl) (fun _ _ _ h => h) t _ (hY 7); exact hd
  · obtain ⟨d, hd⟩ := finds_in m c 8 rfl (fun _ _ _ => rfl) (fun _ _ _ h => h) t _ (hY 8); exact hd
  · obtain ⟨d, hd⟩ := finds_in m c 9 rfl (fun _ _ _ => rfl) (fun _ _ _ h => h) t _ (hY 9); exact hd
  · obtain ⟨d, hd⟩ := finds_in m c 10 rfl (fun _ _ _ => rfl) (fun _ _ _ h => h) t _ (hY 10); exact hd
  · obtain ⟨d, hd⟩ := finds_in m c 11 rfl (fun _ _ _ => rfl) (fun _ _ _ h => h) t _ (hY 11); exact hd

set_option maxHeartbeats 4000000 in
/-- The body at grid point `t` keeps the invariant and the windows' relation. -/
theorem sound_body (c : Dev nD) (t : Fin cfg0.N) (Y : (w : Fin cfg0.W) → (cfg0.win w).block.Idx → Elt F (cfg0.win w).elt)
    (hY : ∀ w, (rdat m c).Finds w t (Y w)) :
    iprop((rdat m c).Φ t.castSucc ∗ (rdat m c).owesAt () t.castSucc
        ∗ owns (c : Thread nD τ) ((cfg0.win 0).stage (cfg0.slots t 0)) fullShare (Y 0) ∗ owns (c : Thread nD τ) ((cfg0.win 1).stage (cfg0.slots t 1)) fullShare (Y 1) ∗ owns (c : Thread nD τ) ((cfg0.win 2).stage (cfg0.slots t 2)) fullShare (Y 2) ∗ owns (c : Thread nD τ) ((cfg0.win 3).stage (cfg0.slots t 3)) fullShare (Y 3) ∗ owns (c : Thread nD τ) ((cfg0.win 4).stage (cfg0.slots t 4)) fullShare (Y 4) ∗ owns (c : Thread nD τ) ((cfg0.win 5).stage (cfg0.slots t 5)) fullShare (Y 5) ∗ owns (c : Thread nD τ) ((cfg0.win 6).stage (cfg0.slots t 6)) fullShare (Y 6) ∗ owns (c : Thread nD τ) ((cfg0.win 7).stage (cfg0.slots t 7)) fullShare (Y 7) ∗ owns (c : Thread nD τ) ((cfg0.win 8).stage (cfg0.slots t 8)) fullShare (Y 8) ∗ owns (c : Thread nD τ) ((cfg0.win 9).stage (cfg0.slots t 9)) fullShare (Y 9) ∗ owns (c : Thread nD τ) ((cfg0.win 10).stage (cfg0.slots t 10)) fullShare (Y 10) ∗ owns (c : Thread nD τ) ((cfg0.win 11).stage (cfg0.slots t 11)) fullShare (Y 11) ∗ owns (c : Thread nD τ) ((cfg0.win 12).stage (cfg0.slots t 12)) fullShare (Y 12) ∗ owns (c : Thread nD τ) ((cfg0.win 13).stage (cfg0.slots t 13)) fullShare (Y 13) ∗ owns (c : Thread nD τ) ((cfg0.win 14).stage (cfg0.slots t 14)) fullShare (Y 14))
      ⊢ wp frame (wpE (defs₀ (F := F)) Variants.none c none) Set.univ (bodyAt0 t) fun _ =>
        iprop((rdat m c).Φ t.succ ∗ (rdat m c).owesAt () t.succ
          ∗ (∃ X, ⌜(rdat m c).after 0 t (Y 0) X⌝ ∗ owns (c : Thread nD τ) ((cfg0.win 0).stage (cfg0.slots t 0)) fullShare X) ∗ (∃ X, ⌜(rdat m c).after 1 t (Y 1) X⌝ ∗ owns (c : Thread nD τ) ((cfg0.win 1).stage (cfg0.slots t 1)) fullShare X) ∗ (∃ X, ⌜(rdat m c).after 2 t (Y 2) X⌝ ∗ owns (c : Thread nD τ) ((cfg0.win 2).stage (cfg0.slots t 2)) fullShare X) ∗ (∃ X, ⌜(rdat m c).after 3 t (Y 3) X⌝ ∗ owns (c : Thread nD τ) ((cfg0.win 3).stage (cfg0.slots t 3)) fullShare X) ∗ (∃ X, ⌜(rdat m c).after 4 t (Y 4) X⌝ ∗ owns (c : Thread nD τ) ((cfg0.win 4).stage (cfg0.slots t 4)) fullShare X) ∗ (∃ X, ⌜(rdat m c).after 5 t (Y 5) X⌝ ∗ owns (c : Thread nD τ) ((cfg0.win 5).stage (cfg0.slots t 5)) fullShare X) ∗ (∃ X, ⌜(rdat m c).after 6 t (Y 6) X⌝ ∗ owns (c : Thread nD τ) ((cfg0.win 6).stage (cfg0.slots t 6)) fullShare X) ∗ (∃ X, ⌜(rdat m c).after 7 t (Y 7) X⌝ ∗ owns (c : Thread nD τ) ((cfg0.win 7).stage (cfg0.slots t 7)) fullShare X) ∗ (∃ X, ⌜(rdat m c).after 8 t (Y 8) X⌝ ∗ owns (c : Thread nD τ) ((cfg0.win 8).stage (cfg0.slots t 8)) fullShare X) ∗ (∃ X, ⌜(rdat m c).after 9 t (Y 9) X⌝ ∗ owns (c : Thread nD τ) ((cfg0.win 9).stage (cfg0.slots t 9)) fullShare X) ∗ (∃ X, ⌜(rdat m c).after 10 t (Y 10) X⌝ ∗ owns (c : Thread nD τ) ((cfg0.win 10).stage (cfg0.slots t 10)) fullShare X) ∗ (∃ X, ⌜(rdat m c).after 11 t (Y 11) X⌝ ∗ owns (c : Thread nD τ) ((cfg0.win 11).stage (cfg0.slots t 11)) fullShare X) ∗ (∃ X, ⌜(rdat m c).after 12 t (Y 12) X⌝ ∗ owns (c : Thread nD τ) ((cfg0.win 12).stage (cfg0.slots t 12)) fullShare X) ∗ (∃ X, ⌜(rdat m c).after 13 t (Y 13) X⌝ ∗ owns (c : Thread nD τ) ((cfg0.win 13).stage (cfg0.slots t 13)) fullShare X) ∗ (∃ X, ⌜(rdat m c).after 14 t (Y 14) X⌝ ∗ owns (c : Thread nD τ) ((cfg0.win 14).stage (cfg0.slots t 14)) fullShare X)) := by
  obtain ⟨e0, e1, e2, e3, e4, e5, e6, e7, e8, e9, e10, e11⟩ := finds_blocks m c t Y hY
  unfold RDat.owesAt Pipeline.owesWithin
  rw [show (rdat m c).Φ t.castSucc = inv m c t.val from rfl, show (rdat m c).Φ t.succ = inv m c (t.val + 1) from rfl,
    show (rdat m c).owed t.castSucc = 0 from rfl, show (rdat m c).owed t.succ = 0 from rfl]
  unfold inv scr
  rw [e0, e1, e2, e3, e4, e5, e6, e7, e8, e9, e10, e11]
  simp only [owns_eq_pt c ((cfg0.win 0).stage (cfg0.slots t 0)) (hstage0_0 ((cfg0.slots t 0).cast nbuf0_0)), owns_eq_pt c ((cfg0.win 1).stage (cfg0.slots t 1)) (hstage0_1 ((cfg0.slots t 1).cast nbuf0_1)), owns_eq_pt c ((cfg0.win 2).stage (cfg0.slots t 2)) (hstage0_2 ((cfg0.slots t 2).cast nbuf0_2)), owns_eq_pt c ((cfg0.win 3).stage (cfg0.slots t 3)) (hstage0_3 ((cfg0.slots t 3).cast nbuf0_3)), owns_eq_pt c ((cfg0.win 4).stage (cfg0.slots t 4)) (hstage0_4 ((cfg0.slots t 4).cast nbuf0_4)), owns_eq_pt c ((cfg0.win 5).stage (cfg0.slots t 5)) (hstage0_5 ((cfg0.slots t 5).cast nbuf0_5)), owns_eq_pt c ((cfg0.win 6).stage (cfg0.slots t 6)) (hstage0_6 ((cfg0.slots t 6).cast nbuf0_6)), owns_eq_pt c ((cfg0.win 7).stage (cfg0.slots t 7)) (hstage0_7 ((cfg0.slots t 7).cast nbuf0_7)), owns_eq_pt c ((cfg0.win 8).stage (cfg0.slots t 8)) (hstage0_8 ((cfg0.slots t 8).cast nbuf0_8)), owns_eq_pt c ((cfg0.win 9).stage (cfg0.slots t 9)) (hstage0_9 ((cfg0.slots t 9).cast nbuf0_9)), owns_eq_pt c ((cfg0.win 10).stage (cfg0.slots t 10)) (hstage0_10 ((cfg0.slots t 10).cast nbuf0_10)), owns_eq_pt c ((cfg0.win 11).stage (cfg0.slots t 11)) (hstage0_11 ((cfg0.slots t 11).cast nbuf0_11)), owns_eq_pt c ((cfg0.win 12).stage (cfg0.slots t 12)) (hstage0_12 ((cfg0.slots t 12).cast nbuf0_12)), owns_eq_pt c ((cfg0.win 13).stage (cfg0.slots t 13)) (hstage0_13 ((cfg0.slots t 13).cast nbuf0_13)), owns_eq_pt c ((cfg0.win 14).stage (cfg0.slots t 14)) (hstage0_14 ((cfg0.slots t 14).cast nbuf0_14)),
    owns_eq_pt c (Memref.whole cc0_scratch0) (Memref.isWhole_whole _), owns_eq_pt c (Memref.whole cc0_scratch1) (Memref.isWhole_whole _), owns_eq_pt c (Memref.whole cc0_scratch2) (Memref.isWhole_whole _), owns_eq_pt c (Memref.whole cc0_scratch3) (Memref.isWhole_whole _)]
  iintro ⟨⟨⟨%s, %hs, HS0, HS1, HS2, HS3⟩, Hg⟩, ⟨%W, %hW, HO⟩, H0, H1, H2, H3, H4, H5, H6, H7, H8, H9, H10, H11, H12, H13, H14⟩
  obtain ⟨Y14, Y15, Y16, a14, a15, a16, run⟩ := body_step m c t s hs (Y 12) (Y 13) (Y 14)
  iapply (run Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, HS0, HS1, HS2, HS3⟩
  isplitl [HS0 HS1 HS2 HS3 Hg]
  · isplitl [HS0 HS1 HS2 HS3]
    · iexists (state m c (t.val + 1))
      isplitr; · ipureintro; exact fun _ => rfl
      isplitl [HS0]; · iexact HS0
      isplitl [HS1]; · iexact HS1
      isplitl [HS2]; · iexact HS2
      iexact HS3
    iexact Hg
  isplitl [HO]
  · iexists W; isplitr; · ipureintro; exact fun _ _ => Or.inl trivial
    iexact HO
  isplitl [H0]
  · iexists _; isplitr
    · ipureintro; exact rfl
    iexact H0
  isplitl [H1]
  · iexists _; isplitr
    · ipureintro; exact rfl
    iexact H1
  isplitl [H2]
  · iexists _; isplitr
    · ipureintro; exact rfl
    iexact H2
  isplitl [H3]
  · iexists _; isplitr
    · ipureintro; exact rfl
    iexact H3
  isplitl [H4]
  · iexists _; isplitr
    · ipureintro; exact rfl
    iexact H4
  isplitl [H5]
  · iexists _; isplitr
    · ipureintro; exact rfl
    iexact H5
  isplitl [H6]
  · iexists _; isplitr
    · ipureintro; exact rfl
    iexact H6
  isplitl [H7]
  · iexists _; isplitr
    · ipureintro; exact rfl
    iexact H7
  isplitl [H8]
  · iexists _; isplitr
    · ipureintro; exact rfl
    iexact H8
  isplitl [H9]
  · iexists _; isplitr
    · ipureintro; exact rfl
    iexact H9
  isplitl [H10]
  · iexists _; isplitr
    · ipureintro; exact rfl
    iexact H10
  isplitl [H11]
  · iexists _; isplitr
    · ipureintro; exact rfl
    iexact H11
  isplitl [H12]
  · iexists _; isplitr
    · ipureintro; exact a14
    iexact H12
  isplitl [H13]
  · iexists _; isplitr
    · ipureintro; exact a15
    iexact H13
  iexists _; isplitr
  · ipureintro; exact a16
  iexact H14

/-- The body's obligation at every point. -/
theorem body_obligation (c : Dev nD) : (rdat (F := F) m c).BodyObligation defs₀ Variants.none () Set.univ := fun t Y hY => by
  rw [bigSep_W0, bigSep_W0, defs₀_row]
  exact triple_restated (sound_body m c t Y hY) rfl .rfl fun _ => .rfl

end Cert.KernelIdeal.Hand

end
-- ==== Proof.Result.lean ====
/-
  The run of the whole program: it ends, keeps its arguments, and leaves the three results.
-/
module

public import proofs.«01_k».proof.Proof.Frame
public import Idealize.ShloMosaic.Lib.StableHlo.RunHlo
public import Idealize.ShloMosaic.Lib.Pipeline.ValueKit.Geometry

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F] [∀ e, Nonempty (Elt F e)]
variable (m : (ℓ : Loc nD τ sig) → Buf (Elt F) ℓ) (g : Dev nD → PrngReg)

local notation "𝕄" => MT nD τ sig Unit (Elt F) ℕ (UR sig nD τ) ℕ

/-- What the scratch buffers hold when the region is entered is the contents of some state. -/
theorem inv_in (c : Dev nD) : (Pipeline.ΦA (U := UR sig nD τ) (Val := Elt F) spec0 c : sProp 𝕄) ⊢ inv m c 0 := by
  unfold Pipeline.ΦA inv scr
  rw [scopedRest0_eq]
  simp only [owns_whole]
  iintro ⟨⟨⟨%f0, H0⟩, ⟨%f1, H1⟩, ⟨%f2, H2⟩, ⟨%f3, H3⟩⟩, Hg⟩
  isplitr [Hg]
  · iexists (⟨f0, f1, f2, f3⟩ : St F)
    isplitr; · ipureintro; exact fun h => absurd h (Nat.lt_irrefl 0)
    isplitl [H0]; · iexact H0
    isplitl [H1]; · iexact H1
    isplitl [H2]; · iexact H2
    iexact H3
  iexact Hg

/-- After the last point they hold something. -/
theorem inv_out (c : Dev nD) (n : ℕ) : inv m c n ⊢ (Pipeline.ΦA (U := UR sig nD τ) (Val := Elt F) spec0 c : sProp 𝕄) := by
  unfold Pipeline.ΦA inv scr
  rw [scopedRest0_eq]
  simp only [owns_whole]
  iintro ⟨⟨%s, -, H0, H1, H2, H3⟩, Hg⟩
  isplitr [Hg]
  · isplitl [H0]; · iexists s.vaub; iexact H0
    isplitl [H1]; · iexists s.rsum; iexact H1
    isplitl [H2]; · iexists s.psum; iexact H2
    iexists s.zsum; iexact H3
  iexact Hg

set_option backward.isDefEq.respectTransparency.types false in
/-- From any memory with zero counters every weakly fair execution ends, every array holds what the proof data say,
every other buffer is as the region found it, and every counter is at zero. -/
theorem run_main :
    θ_run defs (onTc (τ := τ) (main (F := F))) (s₀ m g)
      (fun r => Pipeline.RDat.FramePost (cfgs 0) (fun c => rdat m c) (V m) r ∧ r.2.sem = fun _ => 0) :=
  Pipeline.RDat.θ_run_frame_track cfgs (0 : Fin 1) launch0 defs₀ Variants.none (fun c => rdat m c) m g main
    (hbody := fun c => body_obligation m c) (hshare := fun c w => by simp [RDat.share, rdat])
    (howed := fun _ _ => rfl) (V := V m) (hmain := hmain m Variants.none) (hA := fun _ _ => rfl)
    (hin := fun c => inv_in m c) (hout := fun c => inv_out m c _) (Q' := _) (hQ' := fun _ h => h)

/-- What the run leaves in an input window's array is what the region found there. -/
theorem arr_in {r : PUnit × MemSt nD τ sig (Elt F)} (h : Pipeline.RDat.FramePost (cfgs 0) (fun c => rdat m c) (V m) r) (c : Dev nD)
    (w : Fin cfg0.W) (hin : (cfg0.win w).isOut = false) :
    r.2.mem ((cfg0.spec w).arr.view.loc (c.tc : Thread nD τ)) = V m c (Pipeline.arrRef spec0 w) := by
  have h1 := (h c).1 w
  rw [(rdat m c).ArrAt_in w hin] at h1
  exact h1

/-- The run keeps every argument. -/
theorem args_kept {r : PUnit × MemSt nD τ sig (Elt F)} (h : Pipeline.RDat.FramePost (cfgs 0) (fun c => rdat m c) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  ⟨(arr_in m h c 0 rfl).trans (V_arg m c main_arg0 (by simp)),
    ((h c).2 main_arg1 (Pipeline.mem_restRefs_of main_arg1 (by decide) (by decide))).trans (V_arg m c main_arg1 (by simp)),
    ((h c).2 main_arg2 (Pipeline.mem_restRefs_of main_arg2 (by decide) (by decide))).trans (V_arg m c main_arg2 (by simp)),
    (arr_in m h c 6 rfl).trans (V_arg m c main_arg3 (by simp)),
    (arr_in m h c 7 rfl).trans (V_arg m c main_arg4 (by simp)),
    ((h c).2 main_arg5 (Pipeline.mem_restRefs_of main_arg5 (by decide) (by decide))).trans (V_arg m c main_arg5 (by simp)),
    ((h c).2 main_arg6 (Pipeline.mem_restRefs_of main_arg6 (by decide) (by decide))).trans (V_arg m c main_arg6 (by simp)),
    (arr_in m h c 3 rfl).trans (V_arg m c main_arg7 (by simp)),
    (arr_in m h c 4 rfl).trans (V_arg m c main_arg8 (by simp)),
    ((h c).2 main_arg9 (Pipeline.mem_restRefs_of main_arg9 (by decide) (by decide))).trans (V_arg m c main_arg9 (by simp)),
    (arr_in m h c 8 rfl).trans (V_arg m c main_arg10 (by simp)),
    (arr_in m h c 9 rfl).trans (V_arg m c main_arg11 (by simp)),
    (arr_in m h c 10 rfl).trans (V_arg m c main_arg12 (by simp)),
    (arr_in m h c 11 rfl).trans (V_arg m c main_arg13 (by simp))⟩

set_option backward.isDefEq.respectTransparency.types false in
/-- Every weakly fair execution ends with the arguments kept and every counter at zero. -/
theorem run_frame :
    θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_mono (run_main m g) (fun r h => ⟨fun c => args_kept m h.1 c, h.2⟩)

/-- The block of this result's array is all of it. -/
theorem whole12 (c : Dev nD) (t : Fin cfg0.N) (A : Buf (Elt F) ((c : Thread nD τ).loc main_v0_0)) :
    ((cfg0.win 12).blk t).view.read (Elt F) A = A :=
  funext fun y => congrArg A (funext fun a => Fin.ext (
    Window.rect_emb_val_of_index_zero (cfg0.win 12) t a (by revert a; exact fun | ⟨0, _⟩ => rfl | ⟨1, _⟩ => rfl) y))

/-- The block of this result's array is all of it. -/
theorem whole13 (c : Dev nD) (t : Fin cfg0.N) (A : Buf (Elt F) ((c : Thread nD τ).loc main_v0_1)) :
    ((cfg0.win 13).blk t).view.read (Elt F) A = A :=
  funext fun y => congrArg A (funext fun a => Fin.ext (
    Window.rect_emb_val_of_index_zero (cfg0.win 13) t a (by revert a; exact fun | ⟨0, _⟩ => rfl | ⟨1, _⟩ => rfl) y))

/-- The block of this result's array is all of it. -/
theorem whole14 (c : Dev nD) (t : Fin cfg0.N) (A : Buf (Elt F) ((c : Thread nD τ).loc main_v0_2)) :
    ((cfg0.win 14).blk t).view.read (Elt F) A = A :=
  funext fun y => congrArg A (funext fun a => Fin.ext (
    Window.rect_emb_val_of_index_zero (cfg0.win 14) t a (by revert a; exact fun | ⟨0, _⟩ => rfl | ⟨1, _⟩ => rfl) y))

/-- What the run leaves in a result's array is what the last point left. -/
theorem arr_out {r : PUnit × MemSt nD τ sig (Elt F)} (h : Pipeline.RDat.FramePost (cfgs 0) (fun c => rdat m c) (V m) r) (c : Dev nD)
    (w : Fin cfg0.W) (hf : ((cfg0.win w).flush tLast) = true) :
    ∃ Y X, aft m c w tLast Y X ∧
      ((cfg0.win w).blk tLast).view.read (Elt F) (r.2.mem ((cfg0.spec w).arr.view.loc (c.tc : Thread nD τ)))
        = (cfg0.win w).cut (cfg0.grid.coords tLast) X := by
  have h1 : (rdat m c).ArrAt w (15 + 1) _ := (h c).1 w
  unfold RDat.ArrAt at h1
  simp only [show (15 : ℕ) < cfg0.N from by decide, dif_pos] at h1
  rw [if_pos hf] at h1
  obtain ⟨G₀, X, -, ⟨Y, -, hX⟩, hG⟩ := h1
  refine ⟨Y, X, hX, ?_⟩
  exact (congrArg _ hG).trans (View.read_write_univ _ _)

theorem out12 {r : PUnit × MemSt nD τ sig (Elt F)} (h : Pipeline.RDat.FramePost (cfgs 0) (fun c => rdat m c) (V m) r) (c : Dev nD) :
    r.2.mem ((c : Thread nD τ).loc main_v0_0) = res12 m c := by
  obtain ⟨Y, X, hX, hr⟩ := arr_out m h c 12 ((flush0_12 _).mpr rfl)
  exact (whole12 c tLast _).symm.trans (hr.trans (hX rfl))

theorem out13 {r : PUnit × MemSt nD τ sig (Elt F)} (h : Pipeline.RDat.FramePost (cfgs 0) (fun c => rdat m c) (V m) r) (c : Dev nD) :
    r.2.mem ((c : Thread nD τ).loc main_v0_1) = res13 m c := by
  obtain ⟨Y, X, hX, hr⟩ := arr_out m h c 13 ((flush0_13 _).mpr rfl)
  exact (whole13 c tLast _).symm.trans (hr.trans (hX rfl))

theorem out14 {r : PUnit × MemSt nD τ sig (Elt F)} (h : Pipeline.RDat.FramePost (cfgs 0) (fun c => rdat m c) (V m) r) (c : Dev nD) :
    r.2.mem ((c : Thread nD τ).loc main_v0_2) = res14 m c := by
  obtain ⟨Y, X, hX, hr⟩ := arr_out m h c 14 ((flush0_14 _).mpr rfl)
  exact (whole14 c tLast _).symm.trans (hr.trans (hX rfl))

set_option backward.isDefEq.respectTransparency.types false in
/-- Every weakly fair execution ends with the three results in place and the arguments kept. -/
theorem run_values :
    θ_run defs (onTc (τ := τ) (main (F := F))) ⟨m, fun _ => 0, g⟩ (fun r => ∀ c : Dev nD,
      r.2.mem ((c.tc : Thread nD τ).loc main_v0_0) = res12 m c
      ∧ r.2.mem ((c.tc : Thread nD τ).loc main_v0_1) = res13 m c
      ∧ r.2.mem ((c.tc : Thread nD τ).loc main_v0_2) = res14 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  θ_run_mono (run_main m g) (fun r h c => ⟨out12 m h.1 c, out13 m h.1 c, out14 m h.1 c, args_kept m h.1 c⟩)

end Cert.KernelIdeal.Hand

end
-- ==== Proof.Bits.lean ====
/-
  The kernel and its idealization are one program: what is proved of the one at any values holds of the other at the
  bits.
-/
module

public import proofs.«01_k».proof.Defs
public import proofs.«01_k».proof.Proof.Result
public import proofs.«01_k».proof.Proof.Gen.Kernel

@[expose] public section

set_option maxRecDepth 16384

noncomputable section

namespace Cert.Proof

open Idealize.ShloMosaic Idealize.SL.Sem

set_option maxHeartbeats 4000000 in
/-- The two bodies are one. -/
theorem body_same : @Cert.Kernel.cc0__moa_body Bits _ Cert.Kernel.Gen.facts
    = @Cert.KernelIdeal.cc0__moa_body Bits _ Cert.KernelIdeal.Gen.facts := rfl

set_option maxHeartbeats 4000000 in
/-- The two body tables are one. -/
theorem defs₀_same : @Cert.Kernel.defs₀ Bits _ Cert.Kernel.Gen.facts = @Cert.KernelIdeal.defs₀ Bits _ Cert.KernelIdeal.Gen.facts :=
  congrArg Defs.onTc (funext fun l => funext fun x => match l, x with
    | ⟨0, _⟩, (t, s) => rfl
    | ⟨_ + 1, h⟩, _ => absurd h (Nat.not_lt.2 (Nat.le_add_left _ _)))

set_option maxHeartbeats 4000000 in
/-- The two tables with the pipeline's are one. -/
theorem defs_same : @Cert.Kernel.defs Bits _ Cert.Kernel.Gen.facts = @Cert.KernelIdeal.defs Bits _ Cert.KernelIdeal.Gen.facts :=
  congrArg (Pipeline.defs _) defs₀_same

set_option maxHeartbeats 4000000 in
/-- The two programs are one. -/
theorem main_same : @Cert.Kernel.main Bits _ Cert.Kernel.Gen.facts = @Cert.KernelIdeal.main Bits _ Cert.KernelIdeal.Gen.facts := rfl

set_option maxHeartbeats 4000000 in
/-- The kernel ends, keeps its arguments and leaves every counter at zero. -/
theorem frame_kernel : Cert.quiescent_Kernel (hKernel := Cert.Kernel.Gen.facts) := fun m g _ => by
  rw [defs_same, main_same]
  exact Cert.KernelIdeal.Hand.run_frame (F := Bits) m g

end Cert.Proof

end
-- ==== Proof.Values.lean ====
/-
  What one block computes over the extended reals, element by element.
-/
module

public import proofs.«01_k».proof.Proof.Block
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe

/-- A hidden feature of a block: a product with a column of the layers, a bias added, cut off below at zero. -/
theorem hid_apply (x : FVec Ideal S1x512x2048 .f32) (W : FVec Ideal S2048x4608 .bf16) (b : FVec Ideal S1x4608 .f32)
    (n : Fin 512) (j : Fin 4608) :
    k0_pay59 (F := Ideal) x W b (ix2 n j) = max ((∑ k : Fin 2048, x (ix3 0 n k) * W (ix2 k j)) + b (ix2 0 j)) 0 := by
  pointwise [k0_pay59]

/-- An expert's hidden features are its columns. -/
theorem hidOf_apply (H : FVec Ideal S512x4608 .bf16) (e : Fin 8) (n h : Fin 512) :
    hidOf (F := Ideal) H e (ix2 n h) = H (ix2 n ⟨512 * (e.val + 1) + h.val, by omega⟩) := by
  pointwise [hidOf]

/-- The router's row after a block: the block's sum added. -/
theorem rsum_apply (x : FVec Ideal S1x512x2048 .f32) (W : FVec Ideal S2048x4608 .bf16) (b : FVec Ideal S1x4608 .f32)
    (old : FVec Ideal S1x512 .f32) (p : Fin 512) :
    k0_pay60 (F := Ideal) x W b old (ix2 0 p)
      = old (ix2 0 p) + ∑ n : Fin 512, k0_pay59 (F := Ideal) x W b (ix2 n ⟨p.val, by omega⟩) := by
  pointwise [k0_pay60]

/-- The gated activations of a block. -/
theorem gatedOf_apply (h : FVec Ideal S512x512 .bf16) (va : FVec Ideal S1x512x768 .bf16) (n : Fin 512) (a : Fin 384) :
    gatedOf (F := Ideal) h va (ix2 n a)
      = Ideal.tanh (∑ k : Fin 512, h (ix2 n k) * va (ix3 0 k ⟨a.val, by omega⟩))
        * Ideal.logistic (∑ k : Fin 512, h (ix2 n k) * va (ix3 0 k ⟨384 + a.val, by omega⟩)) := by
  pointwise [gatedOf]

/-- A weight of a block: the exponential of a score. -/
theorem wts_apply (g : FVec Ideal S512x384 .f32) (wa : FVec Ideal S1x384 .f32) (n : Fin 512) :
    k0_pay70 (F := Ideal) g wa (ix2 n 0) = Ideal.exp (∑ a : Fin 384, g (ix2 n a) * wa (ix2 0 a)) := by
  pointwise [k0_pay70]

/-- A row of the weighted sums after a block. -/
theorem addP_apply (h : FVec Ideal S512x512 .bf16) (w : FVec Ideal S512x1 .f32) (old : FVec Ideal S1x512 .f32) (p : Fin 512) :
    k0_pay1 (F := Ideal) h w old (ix2 0 p) = old (ix2 0 p) + ∑ n : Fin 512, h (ix2 n p) * w (ix2 n 0) := by
  pointwise [k0_pay1]

/-- A row of the sums of weights after a block. -/
theorem addZ_apply (w : FVec Ideal S512x1 .f32) (old : FVec Ideal S1x128 .f32) (l : Fin 128) :
    k0_pay2 (F := Ideal) w old (ix2 0 l) = old (ix2 0 l) + ∑ n : Fin 512, w (ix2 n 0) := by
  pointwise [k0_pay2]
  simp only [Finset.univ_unique, Finset.sum_const, Finset.card_singleton, one_smul]

/-- The pooled features are a quotient. -/
theorem pooled_apply (P : FVec Ideal S32x512 .f32) (Z : FVec Ideal S32x1 .f32) (r : Fin 32) (h : Fin 512) :
    k0_pay19 (F := Ideal) P Z (ix2 r h) = Ideal.div (P (ix2 r h)) (Z (ix2 r 0)) := by
  pointwise [k0_pay19]

/-- The projections are taken over as they are. -/
theorem va_apply (v : FVec Ideal S1x512x384 .f32) (h : Fin 512) (a : Fin 384) :
    k0_pay3 (F := Ideal) v (ix3 0 h a) = v (ix3 0 h a) := by
  pointwise [k0_pay3]

/-- An expert's gates are its column. -/
theorem gateOf_apply (g : FVec Ideal S4x8 .f32) (e : Fin 8) (b : Fin 4) :
    gateOf (F := Ideal) g e (ix2 b 0) = g (ix2 b e) := by
  pointwise [gateOf]

/-- A plane of an array of rank 3, read at an index. -/
theorem plane3 {n a b : ℕ} {α : Type} (v : (⟨3, ![n, a, b]⟩ : Shape).Idx → α) (e : Fin n)
    (h : ∀ i, (![e.val, 0, 0] : Fin 3 → ℕ) i + (⟨3, ![1, a, b]⟩ : Shape).size i ≤ (⟨3, ![n, a, b]⟩ : Shape).size i)
    (i : Fin a) (j : Fin b) :
    (VecWindow.window v ![e.val, 0, 0] (⟨3, ![1, a, b]⟩ : Shape).size h : (⟨3, ![1, a, b]⟩ : Shape).Idx → α) (ix3 0 i j)
      = v (ix3 e i j) :=
  congrArg v (funext fun
    | ⟨0, _⟩ => Fin.ext (show e.val + 1 * 0 = e.val by omega)
    | ⟨1, _⟩ => Fin.ext (show 0 + 1 * i.val = i.val by omega)
    | ⟨2, _⟩ => Fin.ext (show 0 + 1 * j.val = j.val by omega))

/-- A row of an array of rank 2, read at an index. -/
theorem row2 {n a : ℕ} {α : Type} (v : (⟨2, ![n, a]⟩ : Shape).Idx → α) (e : Fin n)
    (h : ∀ i, (![e.val, 0] : Fin 2 → ℕ) i + (⟨2, ![1, a]⟩ : Shape).size i ≤ (⟨2, ![n, a]⟩ : Shape).size i) (i : Fin a) :
    (VecWindow.window v ![e.val, 0] (⟨2, ![1, a]⟩ : Shape).size h : (⟨2, ![1, a]⟩ : Shape).Idx → α) (ix2 0 i) = v (ix2 e i) :=
  congrArg v (funext fun
    | ⟨0, _⟩ => Fin.ext (show e.val + 1 * 0 = e.val by omega)
    | ⟨1, _⟩ => Fin.ext (show 0 + 1 * i.val = i.val by omega))

/-- The rows of the pooled features that belong to an expert. -/
theorem poolOf_apply (p : FVec Ideal S32x512 .f32) (e : Fin 8) (b : Fin 4) (h : Fin 512) :
    (extractStridedSlice S4x512 ![4 * e.val, 0] p (slices_pool e) : FVec Ideal S4x512 .f32) (ix2 b h)
      = p (ix2 ⟨4 * e.val + b.val, by omega⟩ h) := by
  pointwise

/-- A product with a plane of weights, a bias added, cut off below at zero. -/
theorem layer_apply (q : FVec Ideal S4x512 .f32) (w : FVec Ideal S1x512x64 .f32) (v : FVec Ideal S1x64 .f32) (b : Fin 4) (l : Fin 64) :
    (maximumf
      (addf (matmul dot_S4x512_S512x64_S4x64_1_0_0_1_n_n none q
          (shapeCast S512x64 w shapeCasts_S1x512x64_S512x64) (constant S4x64 .f32 0x00000000#32))
        (broadcastTo S4x64 (shapeCast S1x64 (shapeCast S64 v shapeCasts_S1x64_S64) shapeCasts_S64_S1x64) broadcasts_S1x64_S4x64))
      (broadcast S4x64 (Scalar.ofBits .f32 0x00000000#32)) : FVec Ideal S4x64 .f32) (ix2 b l)
      = max ((∑ h : Fin 512, q (ix2 b h) * w (ix3 0 h l)) + v (ix2 0 l)) 0 := by
  pointwise

/-- A product with a plane of weights, a bias added. -/
theorem linear_apply (L : FVec Ideal S4x64 .f32) (w : FVec Ideal S1x64x10 .f32) (v : FVec Ideal S1x10 .f32) (b : Fin 4) (q : Fin 10) :
    (addf (matmul dot_S4x64_S64x10_S4x10_1_0_0_1_n_n none L
          (shapeCast S64x10 w shapeCasts_S1x64x10_S64x10) (constant S4x10 .f32 0x00000000#32))
        (broadcastTo S4x10 (shapeCast S1x10 (shapeCast S10 v shapeCasts_S1x10_S10) shapeCasts_S10_S1x10) broadcasts_S1x10_S4x10)
      : FVec Ideal S4x10 .f32) (ix2 b q)
      = (∑ l : Fin 64, L (ix2 b l) * w (ix3 0 l q)) + v (ix2 0 q) := by
  pointwise

/-- An expert's latent vectors from the pooled features. -/
theorem latOf_apply (p : FVec Ideal S32x512 .f32) (W2 : FVec Ideal S8x512x64 .f32) (b2 : FVec Ideal S8x64 .f32) (e : Fin 8)
    (b : Fin 4) (l : Fin 64) :
    latOf (F := Ideal) p W2 b2 e (ix2 b l)
      = max ((∑ h : Fin 512, p (ix2 ⟨4 * e.val + b.val, by omega⟩ h) * W2 (ix3 e h l)) + b2 (ix2 e l)) 0 :=
  (layer_apply _ _ _ b l).trans (congrArg₂ max (congrArg₂ (· + ·)
    (Finset.sum_congr rfl fun h _ => congrArg₂ (· * ·) (poolOf_apply p e b h) (plane3 W2 e (inb_w2 e) h l))
    (row2 b2 e (inb_b2 e) l)) rfl)

/-- An expert's head from its latent vectors. -/
theorem headOf_apply (L : FVec Ideal S4x64 .f32) (Wh : FVec Ideal S8x64x10 .f32) (bh : FVec Ideal S8x10 .f32) (e : Fin 8)
    (b : Fin 4) (q : Fin 10) :
    headOf (F := Ideal) L Wh bh e (ix2 b q)
      = (∑ l : Fin 64, L (ix2 b l) * Wh (ix3 e l q)) + bh (ix2 e q) :=
  (linear_apply _ _ _ b q).trans (congrArg₂ (· + ·)
    (Finset.sum_congr rfl fun l _ => congrArg (L (ix2 b l) * ·) (plane3 Wh e (inb_wh e) l q)) (row2 bh e (inb_bh e) q))

end Cert.KernelIdeal.Hand

end
-- ==== Proof.Inputs.lean ====
/-
  What the blocks of the kernel's operands hold over the extended reals, by the program's arguments: the first layers
  stand side by side in one array, the router's before the experts', and so do their biases.
-/
module

public import proofs.«01_k».proof.Proof.Values
public import proofs.«01_k».proof.Proof.Frame
public import Idealize.ShloMosaic.Lib.StableHlo.RunRead
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe

/-! ## The packed arrays -/

/-- Every expert's plane lies in the array of first layers. -/
theorem slices_w1 : ∀ e : Fin 8, S8x2048x512.Slices ![e.val, 0, 0] S1x2048x512 := by decide
/-- Every expert's row lies in the array of first biases. -/
theorem slices_b1 : ∀ e : Fin 8, S8x512.Slices ![e.val, 0] S1x512 := by decide

/-- Expert `e`'s first layer, cut out of the array of them all. -/
def plane (A : FVec Ideal S8x2048x512 .f32) (e : Fin 8) : FVec Ideal S2048x512 .f32 :=
  shapeCast S2048x512 (extractStridedSlice S1x2048x512 ![e.val, 0, 0] A (slices_w1 e)) shapeCasts_S1x2048x512_S2048x512

/-- Expert `e`'s first bias, cut out of the array of them all. -/
def biasRow (A : FVec Ideal S8x512 .f32) (e : Fin 8) : FVec Ideal S512 .f32 :=
  shapeCast S512 (extractStridedSlice S1x512 ![e.val, 0] A (slices_b1 e)) shapeCasts_S1x512_S512

/-- A plane of the first layers, read at an index. -/
theorem plane_apply (A : FVec Ideal S8x2048x512 .f32) (e : Fin 8) (k : Fin 2048) (h : Fin 512) :
    plane A e (ix2 k h) = A (ix3 e k h) := by
  pointwise [plane]

/-- A row of the first biases, read at an index. -/
theorem biasRow_apply (A : FVec Ideal S8x512 .f32) (e : Fin 8) (h : Fin 512) : biasRow A e (ix1 h) = A (ix2 e h) := by
  pointwise [biasRow]

/-- The first layers side by side. -/
def wallOf (R : FVec Ideal S2048x512 .f32) (A : FVec Ideal S8x2048x512 .f32) : FVec Ideal S2048x4608 .bf16 :=
  truncf .bf16 (concatenate S2048x4608 1
    [⟨S2048x512, R⟩, ⟨S2048x512, plane A 0⟩, ⟨S2048x512, plane A 1⟩, ⟨S2048x512, plane A 2⟩, ⟨S2048x512, plane A 3⟩,
      ⟨S2048x512, plane A 4⟩, ⟨S2048x512, plane A 5⟩, ⟨S2048x512, plane A 6⟩, ⟨S2048x512, plane A 7⟩]
    concatenates_S2048x512_S2048x512_S2048x512_S2048x512_S2048x512_S2048x512_S2048x512_S2048x512_S2048x512_S2048x4608_d1)
    bitsLt_bf16_f32

/-- The biases side by side. -/
def ballOf (R : FVec Ideal S512 .f32) (A : FVec Ideal S8x512 .f32) : FVec Ideal S1x4608 .f32 :=
  broadcastInDim S1x4608 ![1] bcast_S4608_S1x4608_1 (concatenate S4608 0
    [⟨S512, R⟩, ⟨S512, biasRow A 0⟩, ⟨S512, biasRow A 1⟩, ⟨S512, biasRow A 2⟩, ⟨S512, biasRow A 3⟩, ⟨S512, biasRow A 4⟩,
      ⟨S512, biasRow A 5⟩, ⟨S512, biasRow A 6⟩, ⟨S512, biasRow A 7⟩]
    concatenates_S512_S512_S512_S512_S512_S512_S512_S512_S512_S4608_d0)

/-- The router's columns of the first layers. -/
theorem wallOf_router (R : FVec Ideal S2048x512 .f32) (A : FVec Ideal S8x2048x512 .f32) (k : Fin 2048) (p : Fin 512) :
    wallOf R A (ix2 k ⟨p.val, by omega⟩) = R (ix2 k p) := by
  pointwise [wallOf]

/-- The router's part of the biases. -/
theorem ballOf_router (R : FVec Ideal S512 .f32) (A : FVec Ideal S8x512 .f32) (p : Fin 512) :
    ballOf R A (ix2 0 ⟨p.val, by omega⟩) = R (ix1 p) := by
  pointwise [ballOf]

/-- An expert's columns of the first layers. -/
theorem wallOf_expert (R : FVec Ideal S2048x512 .f32) (A : FVec Ideal S8x2048x512 .f32) (e : Fin 8) (k : Fin 2048) (h : Fin 512) :
    wallOf R A (ix2 k ⟨512 * (e.val + 1) + h.val, by omega⟩) = A (ix3 e k h) := by
  rw [← plane_apply A e k h]
  pointwise [wallOf]
  fin_cases e
  all_goals
    dsimp only [Nat.reduceAdd, Nat.reduceMul]
    repeat rw [dif_neg (by omega)]
    try rw [dif_pos (by omega)]
    exact congrArg _ (congrArg (ix2 k) (Fin.ext (by dsimp only; omega)))

/-- An expert's part of the biases. -/
theorem ballOf_expert (R : FVec Ideal S512 .f32) (A : FVec Ideal S8x512 .f32) (e : Fin 8) (h : Fin 512) :
    ballOf R A (ix2 0 ⟨512 * (e.val + 1) + h.val, by omega⟩) = A (ix2 e h) := by
  rw [← biasRow_apply A e h]
  pointwise [ballOf]
  fin_cases e
  all_goals
    dsimp only [Nat.reduceAdd, Nat.reduceMul]
    repeat rw [dif_neg (by omega)]
    try rw [dif_pos (by omega)]
    exact congrArg _ (congrArg ix1 (Fin.ext (by dsimp only; omega)))

/-- The two projections side by side: the first. -/
theorem init_va (Va Ua : FVec Ideal S8x512x384 .f32) (e : Fin 8) (h : Fin 512) (a : Fin 384) :
    (St.init (F := Ideal) Va Ua).vaub (ix3 e h ⟨a.val, by omega⟩) = Va (ix3 e h a) := by
  refine (dif_pos a.isLt).trans ?_
  exact (va_apply _ h a).trans (plane3 Va e (inb_va3 e) h a)

/-- The two projections side by side: the second. -/
theorem init_ua (Va Ua : FVec Ideal S8x512x384 .f32) (e : Fin 8) (h : Fin 512) (a : Fin 384) :
    (St.init (F := Ideal) Va Ua).vaub (ix3 e h ⟨384 + a.val, by omega⟩) = Ua (ix3 e h a) := by
  refine (dif_neg (show ¬ 384 + a.val < 384 by omega)).trans ?_
  have ha : (⟨384 + a.val - 384, by omega⟩ : Fin 384) = a := Fin.ext (by dsimp only; omega)
  exact (congrArg (fun b => k0_pay3 (F := Ideal) (VecWindow.window Ua ![e.val, 0, 0] S1x512x384.size (inb_va3 e)) (ix3 0 h b)) ha).trans
    ((va_apply _ h a).trans (plane3 Ua e (inb_va3 e) h a))

/-! ## The operands of the region -/

variable (m : (ℓ : Loc nD τ sig) → Buf (Elt Ideal) ℓ) (c : Dev nD)

/-- The region's operand with the first layers. -/
theorem wall_eq : V m c main_call0_v17 = wallOf (m ((c : Thread nD τ).loc main_arg1)) (m ((c : Thread nD τ).loc main_arg5)) := by
  unfold V
  simp only [hostOps0, StableHlo.TRef.binary, StableHlo.TRef.nullary, StableHlo.TRef.unary, StableHlo.TRef.reshape,
    StableHlo.TRef.nary, StableHlo.TRef.toBuf, StableHlo.TRef.ofBuf, cast_eq]
  after_results_simp
  rfl

/-- The region's operand with the first biases. -/
theorem ball_eq : V m c main_call0_v35 = ballOf (m ((c : Thread nD τ).loc main_arg2)) (m ((c : Thread nD τ).loc main_arg6)) := by
  unfold V
  simp only [hostOps0, StableHlo.TRef.binary, StableHlo.TRef.nullary, StableHlo.TRef.unary, StableHlo.TRef.reshape,
    StableHlo.TRef.nary, StableHlo.TRef.toBuf, StableHlo.TRef.ofBuf, cast_eq]
  after_results_simp
  rfl

/-- The region's operand with the scores' weights. -/
theorem wa_eq (e : Fin 8) (a : Fin 384) : V m c main_call0_v36 (ix2 e a) = m ((c : Thread nD τ).loc main_arg9) (ix3 e a 0) := by
  unfold V
  simp only [hostOps0]
  after_reads_simp
  pointwise

section
variable (t : Fin cfg0.N)

/-- The windows other than the features' show their whole arrays. -/
theorem xin1 : xin m c 1 t = V m c main_call0_v17 :=
  funext fun y => congrArg (V m c main_call0_v17) (funext fun a => Fin.ext (
    Pipeline.Window.rect_emb_val_of_index_zero (cfg0.win 1) t a (by revert a; exact fun | ⟨0, _⟩ => rfl | ⟨1, _⟩ => rfl) y))
theorem xin2 : xin m c 2 t = V m c main_call0_v35 :=
  funext fun y => congrArg (V m c main_call0_v35) (funext fun a => Fin.ext (
    Pipeline.Window.rect_emb_val_of_index_zero (cfg0.win 2) t a (by revert a; exact fun | ⟨0, _⟩ => rfl | ⟨1, _⟩ => rfl) y))
theorem xin3 : xin m c 3 t = V m c main_arg7 :=
  funext fun y => congrArg (V m c main_arg7) (funext fun a => Fin.ext (
    Pipeline.Window.rect_emb_val_of_index_zero (cfg0.win 3) t a (by revert a; exact fun | ⟨0, _⟩ => rfl | ⟨1, _⟩ => rfl | ⟨2, _⟩ => rfl) y))
theorem xin4 : xin m c 4 t = V m c main_arg8 :=
  funext fun y => congrArg (V m c main_arg8) (funext fun a => Fin.ext (
    Pipeline.Window.rect_emb_val_of_index_zero (cfg0.win 4) t a (by revert a; exact fun | ⟨0, _⟩ => rfl | ⟨1, _⟩ => rfl | ⟨2, _⟩ => rfl) y))
theorem xin5 : xin m c 5 t = V m c main_call0_v36 :=
  funext fun y => congrArg (V m c main_call0_v36) (funext fun a => Fin.ext (
    Pipeline.Window.rect_emb_val_of_index_zero (cfg0.win 5) t a (by revert a; exact fun | ⟨0, _⟩ => rfl | ⟨1, _⟩ => rfl) y))
theorem xin6 : xin m c 6 t = V m c main_arg3 :=
  funext fun y => congrArg (V m c main_arg3) (funext fun a => Fin.ext (
    Pipeline.Window.rect_emb_val_of_index_zero (cfg0.win 6) t a (by revert a; exact fun | ⟨0, _⟩ => rfl | ⟨1, _⟩ => rfl) y))
theorem xin7 : xin m c 7 t = V m c main_arg4 :=
  funext fun y => congrArg (V m c main_arg4) (funext fun a => Fin.ext (
    Pipeline.Window.rect_emb_val_of_index_zero (cfg0.win 7) t a (by revert a; exact fun | ⟨0, _⟩ => rfl) y))
theorem xin8 : xin m c 8 t = V m c main_arg10 :=
  funext fun y => congrArg (V m c main_arg10) (funext fun a => Fin.ext (
    Pipeline.Window.rect_emb_val_of_index_zero (cfg0.win 8) t a (by revert a; exact fun | ⟨0, _⟩ => rfl | ⟨1, _⟩ => rfl | ⟨2, _⟩ => rfl) y))
theorem xin9 : xin m c 9 t = V m c main_arg11 :=
  funext fun y => congrArg (V m c main_arg11) (funext fun a => Fin.ext (
    Pipeline.Window.rect_emb_val_of_index_zero (cfg0.win 9) t a (by revert a; exact fun | ⟨0, _⟩ => rfl | ⟨1, _⟩ => rfl) y))
theorem xin10 : xin m c 10 t = V m c main_arg12 :=
  funext fun y => congrArg (V m c main_arg12) (funext fun a => Fin.ext (
    Pipeline.Window.rect_emb_val_of_index_zero (cfg0.win 10) t a (by revert a; exact fun | ⟨0, _⟩ => rfl | ⟨1, _⟩ => rfl | ⟨2, _⟩ => rfl) y))
theorem xin11 : xin m c 11 t = V m c main_arg13 :=
  funext fun y => congrArg (V m c main_arg13) (funext fun a => Fin.ext (
    Pipeline.Window.rect_emb_val_of_index_zero (cfg0.win 11) t a (by revert a; exact fun | ⟨0, _⟩ => rfl | ⟨1, _⟩ => rfl) y))

/-- The block of features at a grid point: 512 instances of one batch. -/
theorem xin0 (n : Fin 512) (k : Fin 2048) :
    xin m c 0 t (ix3 0 n k) = m ((c : Thread nD τ).loc main_arg0)
      (ix3 ⟨(grid0.coords t 0).val, (grid0.coords t 0).isLt⟩
        ⟨512 * (grid0.coords t 1).val + n.val, by have : (grid0.coords t 1).val < 4 := (grid0.coords t 1).isLt; omega⟩ k) := by
  rw [← V_arg m c main_arg0 (by simp)]
  have h0 : (grid0.coords t 0).val < 4 := (grid0.coords t 0).isLt
  have h1 : (grid0.coords t 1).val < 4 := (grid0.coords t 1).isLt
  refine congrArg (V m c main_arg0) (funext fun a => Fin.ext ?_)
  refine (Pipeline.Window.rect_emb_val (cfg0.win 0) t _ a).trans ?_
  revert a
  exact fun
    | ⟨0, _⟩ => show (BitVec.ofNat 32 (grid0.coords t 0).val).toNat * 1 + 0 = (grid0.coords t 0).val by
      rw [BitVec.toNat_ofNat, Nat.mod_eq_of_lt (by omega)]; omega
    | ⟨1, _⟩ => show (BitVec.ofNat 32 (grid0.coords t 1).val).toNat * 512 + n.val = 512 * (grid0.coords t 1).val + n.val by
      rw [BitVec.toNat_ofNat, Nat.mod_eq_of_lt (by omega)]; omega
    | ⟨2, _⟩ => show 0 * 2048 + k.val = k.val by omega

end

end Cert.KernelIdeal.Hand

end
-- ==== Proof.Spec.lean ====
/-
  The network's quantities as plain sums over the extended reals, by the program's arguments.
-/
module

public import Idealize.ShloMosaic.Lib.Pointwise

@[expose] public section

noncomputable section

namespace Cert.Hand

open Idealize.ShloMosaic

/-- The arguments, read at their indices. -/
structure Args where
  x : Fin 4 → Fin 2048 → Fin 2048 → EReal
  Wr : Fin 2048 → Fin 512 → EReal
  br : Fin 512 → EReal
  Wf : Fin 512 → Fin 8 → EReal
  bf : Fin 8 → EReal
  W1 : Fin 8 → Fin 2048 → Fin 512 → EReal
  b1 : Fin 8 → Fin 512 → EReal
  Va : Fin 8 → Fin 512 → Fin 384 → EReal
  Ua : Fin 8 → Fin 512 → Fin 384 → EReal
  wa : Fin 8 → Fin 384 → EReal
  W2 : Fin 8 → Fin 512 → Fin 64 → EReal
  b2 : Fin 8 → Fin 64 → EReal
  Wh : Fin 8 → Fin 64 → Fin 10 → EReal
  bh : Fin 8 → Fin 10 → EReal

/-- The arguments, out of the arrays that hold them. -/
def Args.of (x0 : FVec Ideal ⟨3, ![4, 2048, 2048]⟩ .f32) (x1 : FVec Ideal ⟨2, ![2048, 512]⟩ .f32) (x2 : FVec Ideal ⟨1, ![512]⟩ .f32)
    (x3 : FVec Ideal ⟨2, ![512, 8]⟩ .f32) (x4 : FVec Ideal ⟨1, ![8]⟩ .f32) (x5 : FVec Ideal ⟨3, ![8, 2048, 512]⟩ .f32)
    (x6 : FVec Ideal ⟨2, ![8, 512]⟩ .f32) (x7 x8 : FVec Ideal ⟨3, ![8, 512, 384]⟩ .f32) (x9 : FVec Ideal ⟨3, ![8, 384, 1]⟩ .f32)
    (x10 : FVec Ideal ⟨3, ![8, 512, 64]⟩ .f32) (x11 : FVec Ideal ⟨2, ![8, 64]⟩ .f32) (x12 : FVec Ideal ⟨3, ![8, 64, 10]⟩ .f32)
    (x13 : FVec Ideal ⟨2, ![8, 10]⟩ .f32) : Args where
  x b n k := x0 (ix3 b n k)
  Wr k p := x1 (ix2 k p)
  br p := x2 (ix1 p)
  Wf p e := x3 (ix2 p e)
  bf e := x4 (ix1 e)
  W1 e k h := x5 (ix3 e k h)
  b1 e h := x6 (ix2 e h)
  Va e h a := x7 (ix3 e h a)
  Ua e h a := x8 (ix3 e h a)
  wa e a := x9 (ix3 e a 0)
  W2 e h l := x10 (ix3 e h l)
  b2 e l := x11 (ix2 e l)
  Wh e l q := x12 (ix3 e l q)
  bh e q := x13 (ix2 e q)

namespace Args

variable (A : Args)

/-- The router's hidden feature `p` of instance `n` in batch `b`. -/
def hidR (b : Fin 4) (n : Fin 2048) (p : Fin 512) : EReal := max ((∑ k, A.x b n k * A.Wr k p) + A.br p) 0

/-- Expert `e`'s hidden feature `h` of instance `n` in batch `b`. -/
def hidE (e : Fin 8) (b : Fin 4) (n : Fin 2048) (h : Fin 512) : EReal :=
  max ((∑ k, A.x b n k * A.W1 e k h) + A.b1 e h) 0

/-- The gated activation of an instance. -/
def gated (e : Fin 8) (b : Fin 4) (n : Fin 2048) (a : Fin 384) : EReal :=
  Ideal.tanh (∑ h, A.hidE e b n h * A.Va e h a) * Ideal.logistic (∑ h, A.hidE e b n h * A.Ua e h a)

/-- The score of an instance. -/
def score (e : Fin 8) (b : Fin 4) (n : Fin 2048) : EReal := ∑ a, A.gated e b n a * A.wa e a

/-- Pooled features: the weighted sum over the sum of the weights. -/
def pooled (e : Fin 8) (b : Fin 4) (h : Fin 512) : EReal :=
  Ideal.div (∑ n, A.hidE e b n h * Ideal.exp (A.score e b n)) (∑ n, Ideal.exp (A.score e b n))

/-- The largest score of a batch. -/
def top (e : Fin 8) (b : Fin 4) : EReal := Finset.univ.fold max (Ideal.ofBits .f32 0xFF800000#32) (A.score e b)

/-- Pooled features: the sum by the softmax of the scores. -/
def softPooled (e : Fin 8) (b : Fin 4) (h : Fin 512) : EReal :=
  ∑ n, Ideal.div (Ideal.exp (A.score e b n - A.top e b)) (∑ n', Ideal.exp (A.score e b n' - A.top e b)) * A.hidE e b n h

/-- The logit of a gate. -/
def gateLogit (b : Fin 4) (e : Fin 8) : EReal :=
  (∑ p, Ideal.div (∑ n, A.hidR b n p) (Ideal.ofBits .f32 0x45000000#32) * A.Wf p e) + A.bf e

/-- The largest logit of a batch. -/
def topLogit (b : Fin 4) : EReal := Finset.univ.fold max (Ideal.ofBits .f32 0xFF800000#32) (A.gateLogit b)

/-- A gate: the softmax of the logits over the experts. -/
def gate (b : Fin 4) (e : Fin 8) : EReal :=
  Ideal.div (Ideal.exp (A.gateLogit b e - A.topLogit b)) (∑ e', Ideal.exp (A.gateLogit b e' - A.topLogit b))

/-- Expert `e`'s latent vector of batch `b`, from pooled features `P`. -/
def latent (P : Fin 8 → Fin 4 → Fin 512 → EReal) (e : Fin 8) (b : Fin 4) (l : Fin 64) : EReal :=
  max ((∑ h, P e b h * A.W2 e h l) + A.b2 e l) 0

/-- Expert `e`'s head of batch `b`. -/
def head (P : Fin 8 → Fin 4 → Fin 512 → EReal) (e : Fin 8) (b : Fin 4) (q : Fin 10) : EReal :=
  (∑ l, A.latent P e b l * A.Wh e l q) + A.bh e q

/-- The first result: the latent vectors by their gates. -/
def outLatent (P : Fin 8 → Fin 4 → Fin 512 → EReal) (b : Fin 4) (l : Fin 64) : EReal := ∑ e, A.latent P e b l * A.gate b e

/-- The second result: the heads by their gates. -/
def outHead (P : Fin 8 → Fin 4 → Fin 512 → EReal) (b : Fin 4) (q : Fin 10) : EReal := ∑ e, A.head P e b q * A.gate b e

end Args

end Cert.Hand

end
-- ==== Proof.State.lean ====
/-
  What the scratch buffers hold after the last grid point: the sums over all instances of a batch. Each grid point adds
  its block of 512 instances to the rows of its batch.
-/
module

public import proofs.«01_k».proof.Proof.Inputs
public import proofs.«01_k».proof.Proof.Spec

@[expose] public section

set_option maxRecDepth 16384

noncomputable section

namespace Cert.KernelIdeal.Hand

open Cert.KernelIdeal Cert.KernelIdeal.Gen Cert.Hand
open Idealize.ShloMosaic Idealize.ShloMosaic.TcCoe

/-! ## A sum that the grid points build up -/

/-- The first coordinate of a grid point is its batch. -/
theorem coords0 : ∀ t : Fin cfg0.N, (grid0.coords t 0).val = t.val / 4 := by decide +kernel
/-- The second coordinate of a grid point is its block within the batch. -/
theorem coords1 : ∀ t : Fin cfg0.N, (grid0.coords t 1).val = t.val % 4 := by decide +kernel

/-- The sum over grid point `t`'s block of 512 instances. -/
def blockSum (f : Fin 2048 → EReal) (t : ℕ) : EReal := ∑ n : Fin 512, f ⟨512 * (t % 4) + n.val, by omega⟩

/-- A grid point's block depends on its place within the batch only. -/
theorem blockSum_mod (f : Fin 2048 → EReal) (q i : ℕ) (hi : i < 4) : blockSum f (4 * q + i) = blockSum f i := by
  have h : (4 * q + i) % 4 = i % 4 := by omega
  exact Finset.sum_congr rfl fun n _ => congrArg f (Fin.ext (congrArg (fun j => 512 * j + n.val) h))

/-- The four blocks make up all the instances. -/
theorem sum_blocks (f : Fin 2048 → EReal) :
    ∑ n, f n = blockSum f 0 + blockSum f 1 + blockSum f 2 + blockSum f 3 := by
  have h : ∑ n, f n = ∑ q : Fin 4 × Fin 512, f ⟨512 * (q.1.val % 4) + q.2.val, by omega⟩ := by
    refine (Fintype.sum_equiv (finProdFinEquiv (m := 4) (n := 512)) _ _ fun q => congrArg f (Fin.ext ?_)).symm
    show 512 * (q.1.val % 4) + q.2.val = q.2.val + 512 * q.1.val
    have := q.1.isLt
    omega
  rw [h, Fintype.sum_prod_type, Fin.sum_univ_four]
  rfl

/-- A quantity that is zero at first and to which the points of batch `b`, and no others, add the sums over their blocks. -/
theorem sum_over_grid (acc : ℕ → EReal) (f : Fin 2048 → EReal) (b : Fin 4) (h0 : acc 0 = 0)
    (hs : ∀ t : ℕ, t < 16 → acc (t + 1) = if b.val = t / 4 then acc t + blockSum f t else acc t) :
    acc 16 = ∑ n, f n := by
  have hq : ∀ q : ℕ, q < 4 → acc (4 * (q + 1)) = if b.val = q then acc (4 * q) + ∑ n, f n else acc (4 * q) := by
    intro q hq
    have e3 := hs (4 * q + 3) (by omega)
    have e2 := hs (4 * q + 2) (by omega)
    have e1 := hs (4 * q + 1) (by omega)
    have e0 := hs (4 * q) (by omega)
    rw [show (4 * q + 3) / 4 = q by omega, blockSum_mod f q 3 (by omega)] at e3
    rw [show (4 * q + 2) / 4 = q by omega, blockSum_mod f q 2 (by omega)] at e2
    rw [show (4 * q + 1) / 4 = q by omega, blockSum_mod f q 1 (by omega)] at e1
    rw [show 4 * q / 4 = q by omega, show blockSum f (4 * q) = blockSum f 0 from blockSum_mod f q 0 (by omega)] at e0
    show acc (4 * q + 3 + 1) = _
    by_cases hb : b.val = q
    · rw [if_pos hb] at e0 e1 e2 e3 ⊢
      rw [e3, e2, e1, e0, sum_blocks f]
      simp only [add_assoc]
    · rw [if_neg hb] at e0 e1 e2 e3 ⊢
      rw [e3, e2, e1, e0]
  have q3 : acc 16 = _ := hq 3 (by omega)
  have q2 : acc 12 = _ := hq 2 (by omega)
  have q1 : acc 8 = _ := hq 1 (by omega)
  have q0 : acc 4 = _ := hq 0 (by omega)
  norm_num only at q0 q1 q2 q3
  rw [h0] at q0
  rw [q3, q2, q1, q0]
  have hb := b.isLt
  obtain hb | hb | hb | hb : b.val = 0 ∨ b.val = 1 ∨ b.val = 2 ∨ b.val = 3 := by omega
  all_goals rw [hb]; simp

/-! ## The arguments -/

variable (m : (ℓ : Loc nD τ sig) → Buf (Elt Ideal) ℓ) (c : Dev nD)

/-- The program's arguments, read at their indices. -/
def args : Args :=
  Args.of (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12))
    (m ((c : Thread nD τ).loc main_arg13))

/-! ## A block -/

/-- The batch of grid point `t`. -/
abbrev batch (t : ℕ) (ht : t < 16) : Fin 4 := ⟨t / 4, by omega⟩
/-- The instance in row `n` of grid point `t`'s block. -/
abbrev inst (t : ℕ) (n : Fin 512) : Fin 2048 := ⟨512 * (t % 4) + n.val, by omega⟩

/-- All the hidden features of grid point `t`'s block. -/
abbrev hidAt (t : Fin cfg0.N) : FVec Ideal S512x4608 .bf16 := k0_pay59 (F := Ideal) (xin m c 0 t) (xin m c 1 t) (xin m c 2 t)

/-- The features of a grid point's block. -/
theorem xin0_args (t : ℕ) (ht : t < 16) (n : Fin 512) (k : Fin 2048) :
    xin m c 0 ⟨t, ht⟩ (ix3 0 n k) = (args m c).x (batch t ht) (inst t n) k := by
  refine (xin0 m c ⟨t, ht⟩ n k).trans ?_
  have h0 : (⟨(grid0.coords ⟨t, ht⟩ 0).val, (grid0.coords ⟨t, ht⟩ 0).isLt⟩ : Fin 4) = batch t ht := Fin.ext (coords0 ⟨t, ht⟩)
  have h1 : (⟨512 * (grid0.coords ⟨t, ht⟩ 1).val + n.val, by
      have : (grid0.coords ⟨t, ht⟩ 1).val < 4 := (grid0.coords ⟨t, ht⟩ 1).isLt; omega⟩ : Fin 2048) = inst t n :=
    Fin.ext (congrArg (fun j => 512 * j + n.val) (coords1 ⟨t, ht⟩))
  exact congrArg₂ (fun (b : Fin 4) (i : Fin 2048) => (m ((c : Thread nD τ).loc main_arg0) : FVec Ideal S4x2048x2048 .f32) (ix3 b i k)) h0 h1

/-- The router's hidden features of a block. -/
theorem hidAt_router (t : ℕ) (ht : t < 16) (n : Fin 512) (p : Fin 512) :
    hidAt m c ⟨t, ht⟩ (ix2 n ⟨p.val, by omega⟩) = (args m c).hidR (batch t ht) (inst t n) p := by
  refine (hid_apply _ _ _ n _).trans (congrArg₂ max (congrArg₂ (· + ·) (Finset.sum_congr rfl fun k _ => congrArg₂ (· * ·)
    (xin0_args m c t ht n k) ?_) ?_) rfl)
  · rw [xin1, wall_eq]; exact wallOf_router _ _ k p
  · rw [xin2, ball_eq]; exact ballOf_router _ _ p

/-- An expert's hidden features of a block. -/
theorem hidAt_expert (t : ℕ) (ht : t < 16) (e : Fin 8) (n h : Fin 512) :
    hidOf (F := Ideal) (hidAt m c ⟨t, ht⟩) e (ix2 n h) = (args m c).hidE e (batch t ht) (inst t n) h := by
  refine (hidOf_apply _ e n h).trans ((hid_apply _ _ _ n _).trans (congrArg₂ max (congrArg₂ (· + ·) (Finset.sum_congr rfl fun k _ =>
    congrArg₂ (· * ·) (xin0_args m c t ht n k) ?_) ?_) rfl))
  · rw [xin1, wall_eq]; exact wallOf_expert _ _ e k h
  · rw [xin2, ball_eq]; exact ballOf_expert _ _ e h

/-- The two projections, in every state. -/
theorem state_vaub (t : ℕ) : (state m c t).vaub = (start m c).vaub := by
  induction t with
  | zero => rw [state_zero]
  | succ n ih =>
    rw [← ih]
    by_cases h : n < cfg0.N
    · rw [state_succ m c ⟨n, h⟩]; unfold stepAt; rfl
    · rw [show state m c (n + 1) = state m c n by conv_lhs => unfold state; rw [dif_neg h]]

/-- The first projection in a state. -/
theorem state_va (t : ℕ) (e : Fin 8) (h : Fin 512) (a : Fin 384) :
    (state m c t).vaub (ix3 e h ⟨a.val, by omega⟩) = (args m c).Va e h a := by
  rw [state_vaub]; unfold start
  refine (init_va _ _ e h a).trans ?_
  rw [xin3, V_arg m c main_arg7 (by simp)]; rfl

/-- The second projection in a state. -/
theorem state_ua (t : ℕ) (e : Fin 8) (h : Fin 512) (a : Fin 384) :
    (state m c t).vaub (ix3 e h ⟨384 + a.val, by omega⟩) = (args m c).Ua e h a := by
  rw [state_vaub]; unfold start
  refine (init_ua _ _ e h a).trans ?_
  rw [xin4, V_arg m c main_arg8 (by simp)]; rfl

/-- The weight of an instance. -/
theorem weight (t : ℕ) (ht : t < 16) (e : Fin 8) (n : Fin 512) :
    wtsOf (F := Ideal) (hidAt m c ⟨t, ht⟩) (state m c t).vaub (xin m c 5 ⟨t, ht⟩) e (ix2 n 0)
      = Ideal.exp ((args m c).score e (batch t ht) (inst t n)) := by
  refine (wts_apply _ _ n).trans (congrArg Ideal.exp (Finset.sum_congr rfl fun a _ => congrArg₂ (· * ·) ?_ ?_))
  · refine (gatedOf_apply _ _ n a).trans (congrArg₂ (· * ·) (congrArg Ideal.tanh (Finset.sum_congr rfl fun h _ => congrArg₂ (· * ·)
      (hidAt_expert m c t ht e n h) ?_)) (congrArg Ideal.logistic (Finset.sum_congr rfl fun h _ => congrArg₂ (· * ·)
      (hidAt_expert m c t ht e n h) ?_)))
    · exact (plane3 _ e (inb_va e) h _).trans (state_va m c t e h a)
    · exact (plane3 _ e (inb_va e) h _).trans (state_ua m c t e h a)
  · refine (row2 _ e (inb_wa e) a).trans ?_
    rw [xin5]; exact wa_eq m c e a

/-! ## The first state -/

/-- The first state is zero. -/
theorem init_rsum (Va Ua : FVec Ideal S8x512x384 .f32) (b : Fin 4) (p : Fin 512) :
    (St.init (F := Ideal) Va Ua).rsum (ix2 b p) = 0 := by
  pointwise [St.init, k0_pay56]
/-- The first state is zero. -/
theorem init_psum (Va Ua : FVec Ideal S8x512x384 .f32) (r : Fin 32) (h : Fin 512) :
    (St.init (F := Ideal) Va Ua).psum (ix2 r h) = 0 := by
  pointwise [St.init, k0_pay57]
/-- The first state is zero. -/
theorem init_zsum (Va Ua : FVec Ideal S8x512x384 .f32) (r : Fin 32) (l : Fin 128) :
    (St.init (F := Ideal) Va Ua).zsum (ix2 r l) = 0 := by
  pointwise [St.init, k0_pay58]

/-! ## The last state -/

/-- A row of expert `e` and batch `b` after a step of batch `r`. -/
theorem updRows_apply {α : Type} {n : ℕ} (r : ℕ) (G : Fin 8 → ((⟨2, ![1, n]⟩ : Shape).Idx → α) → (⟨2, ![1, n]⟩ : Shape).Idx → α)
    (s : (⟨2, ![32, n]⟩ : Shape).Idx → α) (e : Fin 8) (b : Fin 4) (h : Fin n) :
    updRows r G s (ix2 ⟨4 * e.val + b.val, by omega⟩ h)
      = if b.val = r then G e (fun z => s (ix2 ⟨4 * e.val + b.val, by omega⟩ (z 1))) (ix2 0 h)
        else s (ix2 ⟨4 * e.val + b.val, by omega⟩ h) := by
  have he : (⟨(4 * e.val + b.val) / 4, by omega⟩ : Fin 8) = e := Fin.ext (by show (4 * e.val + b.val) / 4 = e.val; omega)
  have hm : (4 * e.val + b.val) % 4 = b.val := by omega
  show (if (4 * e.val + b.val) % 4 = r then G ⟨(4 * e.val + b.val) / 4, _⟩ _ _ else _) = _
  rw [hm]
  refine if_congr Iff.rfl ?_ rfl
  exact congrArg (fun q => G q (fun z => s (ix2 ⟨4 * e.val + b.val, by omega⟩ (z 1))) (ix2 0 h)) he

/-- The router's sums. -/
theorem final_rsum (b : Fin 4) (p : Fin 512) : (final m c).rsum (ix2 b p) = ∑ n, (args m c).hidR b n p := by
  refine sum_over_grid (fun t => (state m c t).rsum (ix2 b p)) (fun n => (args m c).hidR b n p) b ?_ ?_
  · show (state m c 0).rsum (ix2 b p) = 0
    rw [state_zero]; unfold start; exact init_rsum _ _ b p
  · intro t ht
    show (state m c (t + 1)).rsum (ix2 b p) = _
    rw [state_succ m c ⟨t, ht⟩]
    unfold stepAt
    show (if b.val = (grid0.coords ⟨t, ht⟩ 0).val then _ else _) = _
    rw [coords0 ⟨t, ht⟩]
    refine if_ctx_congr Iff.rfl (fun hb => ?_) (fun _ => rfl)
    refine (rsum_apply _ _ _ _ p).trans (congrArg (_ + ·) (Finset.sum_congr rfl fun n _ => ?_))
    obtain rfl : b = batch t ht := Fin.ext hb
    exact hidAt_router m c t ht n p

/-- The weighted sums. -/
theorem final_psum (e : Fin 8) (b : Fin 4) (h : Fin 512) : (final m c).psum (ix2 ⟨4 * e.val + b.val, by omega⟩ h)
    = ∑ n, (args m c).hidE e b n h * Ideal.exp ((args m c).score e b n) := by
  refine sum_over_grid (fun t => (state m c t).psum (ix2 ⟨4 * e.val + b.val, by omega⟩ h))
    (fun n => (args m c).hidE e b n h * Ideal.exp ((args m c).score e b n)) b ?_ ?_
  · show (state m c 0).psum _ = 0
    rw [state_zero]; unfold start; exact init_psum _ _ _ h
  · intro t ht
    show (state m c (t + 1)).psum _ = _
    rw [state_succ m c ⟨t, ht⟩]
    unfold stepAt
    refine (updRows_apply _ _ _ e b h).trans ?_
    rw [coords0 ⟨t, ht⟩]
    refine if_ctx_congr Iff.rfl (fun hb => ?_) (fun _ => rfl)
    refine (addP_apply _ _ _ h).trans (congrArg (_ + ·) (Finset.sum_congr rfl fun n _ => ?_))
    obtain rfl : b = batch t ht := Fin.ext hb
    exact congrArg₂ (· * ·) (hidAt_expert m c t ht e n h) (weight m c t ht e n)

/-- The sums of the weights. -/
theorem final_zsum (e : Fin 8) (b : Fin 4) (l : Fin 128) : (final m c).zsum (ix2 ⟨4 * e.val + b.val, by omega⟩ l)
    = ∑ n, Ideal.exp ((args m c).score e b n) := by
  refine sum_over_grid (fun t => (state m c t).zsum (ix2 ⟨4 * e.val + b.val, by omega⟩ l))
    (fun n => Ideal.exp ((args m c).score e b n)) b ?_ ?_
  · show (state m c 0).zsum _ = 0
    rw [state_zero]; unfold start; exact init_zsum _ _ _ l
  · intro t ht
    show (state m c (t + 1)).zsum _ = _
    rw [state_succ m c ⟨t, ht⟩]
    unfold stepAt
    refine (updRows_apply _ _ _ e b l).trans ?_
    rw [coords0 ⟨t, ht⟩]
    refine if_ctx_congr Iff.rfl (fun hb => ?_) (fun _ => rfl)
    refine (addZ_apply _ _ l).trans (congrArg (_ + ·) (Finset.sum_congr rfl fun n _ => ?_))
    obtain rfl : b = batch t ht := Fin.ext hb
    exact weight m c t ht e n

end Cert.KernelIdeal.Hand

end
-- ==== Proof.Tail.lean ====
/-
  The three results of the kernel: the gates, the gated latent vectors, the gated heads.
-/
module

public import proofs.«01_k».proof.Proof.State

@[expose] public section

set_option maxRecDepth 16384

noncomputable section

namespace Cert.KernelIdeal.Hand

open Cert.KernelIdeal Cert.KernelIdeal.Gen Cert.Hand
open Idealize.ShloMosaic Idealize.ShloMosaic.TcCoe

/-- The gates from the router's sums. -/
theorem gates_apply (R : FVec Ideal S4x512 .f32) (Wf : FVec Ideal S512x8 .f32) (bf : FVec Ideal S8 .f32) (A : Args)
    (hR : ∀ b p, R (ix2 b p) = ∑ n, A.hidR b n p) (hW : ∀ p e, Wf (ix2 p e) = A.Wf p e) (hb : ∀ e, bf (ix1 e) = A.bf e)
    (b : Fin 4) (e : Fin 8) : k0_pay18 (F := Ideal) R Wf bf (ix2 b e) = A.gate b e := by
  pointwise [k0_pay18]
  simp only [hR, hW, hb]
  rfl

/-- The sum over the experts starts at zero. -/
theorem start_lat (b : Fin 4) (l : Fin 64) : (k0_pay20 (F := Ideal)) (ix2 b l) = 0 := by
  pointwise [k0_pay20]
/-- The sum over the experts starts at zero. -/
theorem start_head (b : Fin 4) (q : Fin 10) : (k0_pay21 (F := Ideal)) (ix2 b q) = 0 := by
  pointwise [k0_pay21]

/-- A further expert's latent vectors, times their gates, added. -/
theorem add_lat (s : FVec Ideal S4x64 .f32) (g : FVec Ideal S4x1 .f32) (L : FVec Ideal S4x64 .f32) (b : Fin 4) (l : Fin 64) :
    (addf s (mulf (broadcastTo S4x64 g broadcasts_S4x1_S4x64) L) : FVec Ideal S4x64 .f32) (ix2 b l)
      = s (ix2 b l) + g (ix2 b 0) * L (ix2 b l) := by
  pointwise
/-- A further expert's heads, times their gates, added. -/
theorem add_head (s : FVec Ideal S4x10 .f32) (g : FVec Ideal S4x1 .f32) (L : FVec Ideal S4x10 .f32) (b : Fin 4) (q : Fin 10) :
    (addf s (mulf (broadcastTo S4x10 g broadcasts_S4x1_S4x10) L) : FVec Ideal S4x10 .f32) (ix2 b q)
      = s (ix2 b q) + g (ix2 b 0) * L (ix2 b q) := by
  pointwise

/-- The gated latent vectors of the first experts. -/
theorem latSum_apply (g : FVec Ideal S4x8 .f32) (L : Fin 8 → FVec Ideal S4x64 .f32) (b : Fin 4) (l : Fin 64) (j : ℕ) (h : j ≤ 8) :
    latSum (F := Ideal) g L j h (ix2 b l) = ∑ e : Fin j, L (e.castLE h) (ix2 b l) * g (ix2 b (e.castLE h)) := by
  induction j with
  | zero => exact (start_lat b l).trans Finset.sum_empty.symm
  | succ j ih =>
    rw [Fin.sum_univ_castSucc]
    refine (add_lat _ _ _ b l).trans (congrArg₂ (· + ·) (ih (Nat.le_of_succ_le h)) ?_)
    rw [gateOf_apply, mul_comm]
    rfl

/-- The gated heads of the first experts. -/
theorem headSum_apply (g : FVec Ideal S4x8 .f32) (L : Fin 8 → FVec Ideal S4x10 .f32) (b : Fin 4) (q : Fin 10) (j : ℕ) (h : j ≤ 8) :
    headSum (F := Ideal) g L j h (ix2 b q) = ∑ e : Fin j, L (e.castLE h) (ix2 b q) * g (ix2 b (e.castLE h)) := by
  induction j with
  | zero => exact (start_head b q).trans Finset.sum_empty.symm
  | succ j ih =>
    rw [Fin.sum_univ_castSucc]
    refine (add_head _ _ _ b q).trans (congrArg₂ (· + ·) (ih (Nat.le_of_succ_le h)) ?_)
    rw [gateOf_apply, mul_comm]
    rfl

variable (m : (ℓ : Loc nD τ sig) → Buf (Elt Ideal) ℓ) (c : Dev nD)

/-- The first column of the sums of weights. -/
theorem col0 (Z : FVec Ideal S32x128 .f32) (r : Fin 32) :
    (VecWindow.window Z ![0, 0] S32x1.size inb_S32x128_S32x1_0_0 : FVec Ideal S32x1 .f32) (ix2 r 0) = Z (ix2 r 0) :=
  congrArg Z (funext fun
    | ⟨0, _⟩ => Fin.ext (show 0 + 1 * r.val = r.val by omega)
    | ⟨1, _⟩ => rfl)

/-- The pooled features of the last state. -/
theorem final_pooled (e : Fin 8) (b : Fin 4) (h : Fin 512) :
    (final m c).pooled (ix2 ⟨4 * e.val + b.val, by omega⟩ h) = (args m c).pooled e b h :=
  (pooled_apply _ _ _ h).trans (congrArg₂ Ideal.div (final_psum m c e b h) ((col0 _ _).trans (final_zsum m c e b 0)))

/-- The gates of the last state. -/
theorem final_gates (b : Fin 4) (e : Fin 8) :
    (final m c).gates (xin m c 6 tLast) (xin m c 7 tLast) (ix2 b e) = (args m c).gate b e := by
  refine gates_apply _ _ _ (args m c) (final_rsum m c) ?_ ?_ b e
  · intro p e
    rw [xin6, V_arg m c main_arg3 (by simp)]; rfl
  · intro e
    rw [xin7, V_arg m c main_arg4 (by simp)]; rfl

/-- An expert's latent vectors at the last point. -/
theorem final_latOf (e : Fin 8) (b : Fin 4) (l : Fin 64) :
    latOf (F := Ideal) (final m c).pooled (xin m c 8 tLast) (xin m c 9 tLast) e (ix2 b l)
      = (args m c).latent (args m c).pooled e b l := by
  refine (latOf_apply _ _ _ e b l).trans (congrArg₂ max (congrArg₂ (· + ·) (Finset.sum_congr rfl fun h _ => congrArg₂ (· * ·)
    (final_pooled m c e b h) ?_) ?_) rfl)
  · rw [xin8, V_arg m c main_arg10 (by simp)]; rfl
  · rw [xin9, V_arg m c main_arg11 (by simp)]; rfl

/-- An expert's head at the last point. -/
theorem final_headOf (e : Fin 8) (b : Fin 4) (q : Fin 10) :
    headOf (F := Ideal) (latOf (final m c).pooled (xin m c 8 tLast) (xin m c 9 tLast) e) (xin m c 10 tLast) (xin m c 11 tLast) e
      (ix2 b q) = (args m c).head (args m c).pooled e b q := by
  refine (headOf_apply _ _ _ e b q).trans (congrArg₂ (· + ·) (Finset.sum_congr rfl fun l _ => congrArg₂ (· * ·)
    (final_latOf m c e b l) ?_) ?_)
  · rw [xin10, V_arg m c main_arg12 (by simp)]; rfl
  · rw [xin11, V_arg m c main_arg13 (by simp)]; rfl

/-- The third result. -/
theorem res14_apply (b : Fin 4) (e : Fin 8) : res14 m c (ix2 b e) = (args m c).gate b e := by
  unfold res14
  exact final_gates m c b e

/-- The first result. -/
theorem res12_apply (b : Fin 4) (l : Fin 64) : res12 m c (ix2 b l) = (args m c).outLatent (args m c).pooled b l := by
  unfold res12
  exact (latSum_apply _ _ b l 8 le_rfl).trans (Finset.sum_congr rfl fun e _ =>
    congrArg₂ (· * ·) (final_latOf m c e b l) (final_gates m c b e))

/-- The second result. -/
theorem res13_apply (b : Fin 4) (q : Fin 10) : res13 m c (ix2 b q) = (args m c).outHead (args m c).pooled b q := by
  unfold res13
  exact (headSum_apply _ _ b q 8 le_rfl).trans (Finset.sum_congr rfl fun e _ =>
    congrArg₂ (· * ·) (final_headOf m c e b q) (final_gates m c b e))

end Cert.KernelIdeal.Hand

end
-- ==== Proof.RefValues.lean ====
/-
  What the reference computes, element by element: its hidden features, scores and gates, and its three results.
-/
module

public import proofs.«01_k».proof.Proof.Spec
public import proofs.«01_k».proof.Proof.Gen.ReferenceIdeal.Read

@[expose] public section

set_option maxRecDepth 16384

noncomputable section

namespace Cert.ReferenceIdeal.Hand

open Cert.ReferenceIdeal Cert.ReferenceIdeal.Gen Cert.ReferenceIdeal.Read Cert.Hand
open Idealize.ShloMosaic Idealize.ShloMosaic.TcCoe

variable (x0 : FVec Ideal S4x2048x2048 .f32) (x1 : FVec Ideal S2048x512 .f32) (x2 : FVec Ideal S512 .f32)
    (x3 : FVec Ideal S512x8 .f32) (x4 : FVec Ideal S8 .f32) (x5 : FVec Ideal S8x2048x512 .f32)
    (x6 : FVec Ideal S8x512 .f32) (x7 x8 : FVec Ideal S8x512x384 .f32) (x9 : FVec Ideal S8x384x1 .f32)
    (x10 : FVec Ideal S8x512x64 .f32) (x11 : FVec Ideal S8x64 .f32) (x12 : FVec Ideal S8x64x10 .f32)
    (x13 : FVec Ideal S8x10 .f32)

/-- The router's hidden features. -/
theorem v4_apply (b : Fin 4) (n : Fin 2048) (p : Fin 512) :
    val_main_v4 (F := Ideal) x0 x1 x2 (ix3 b n p) = (Args.of x0 x1 x2 x3 x4 x5 x6 x7 x8 x9 x10 x11 x12 x13).hidR b n p := by
  pointwise [val_main_v0, val_main_v1, val_main_v2, val_main_v3, val_main_call0_cst, val_main_call0_v0, val_main_v4]
  rfl

/-- Their mean over the instances, before the gates' layer. -/
theorem v7_apply (b : Fin 4) (p : Fin 512) :
    val_main_v7 (F := Ideal) x0 x1 x2 (ix2 b p) = Ideal.div (∑ n, (Args.of x0 x1 x2 x3 x4 x5 x6 x7 x8 x9 x10 x11 x12 x13).hidR b n p) (Ideal.ofBits .f32 0x45000000#32) := by
  pointwise [val_main_cst, val_main_v5, val_main_cst_0, val_main_v6, val_main_v7]
  simp only [v4_apply x0 x1 x2 x3 x4 x5 x6 x7 x8 x9 x10 x11 x12 x13]

/-- The logits of the gates. -/
theorem v11_apply (b : Fin 4) (e : Fin 8) :
    val_main_v11 (F := Ideal) x0 x1 x2 x3 x4 (ix2 b e) =
      (Args.of x0 x1 x2 x3 x4 x5 x6 x7 x8 x9 x10 x11 x12 x13).gateLogit b e := by
  pointwise [val_main_v8, val_main_v9, val_main_v10, val_main_v11]
  simp only [v7_apply x0 x1 x2 x3 x4 x5 x6 x7 x8 x9 x10 x11 x12 x13]
  rfl

/-- Division by one changes nothing. -/
theorem div_one (x : EReal) : Ideal.div x 1 = x := by
  refine (Ideal.div_coe one_ne_zero x).trans ?_
  simp

/-- The logits divided by the temperature, which is one. -/
theorem v13_apply (b : Fin 4) (e : Fin 8) :
    val_main_v13 (F := Ideal) x0 x1 x2 x3 x4 (ix2 b e) =
      (Args.of x0 x1 x2 x3 x4 x5 x6 x7 x8 x9 x10 x11 x12 x13).gateLogit b e := by
  pointwise [val_main_cst_1, val_main_v12, val_main_v13]
  simp only [v11_apply x0 x1 x2 x3 x4 x5 x6 x7 x8 x9 x10 x11 x12 x13]
  exact div_one _

/-- The largest logit of a batch. -/
theorem v16_apply (b : Fin 4) :
    val_main_v16 (F := Ideal) x0 x1 x2 x3 x4 (ix1 b) = (Args.of x0 x1 x2 x3 x4 x5 x6 x7 x8 x9 x10 x11 x12 x13).topLogit b := by
  pointwise [val_main_cst_2, val_main_v14, val_main_cst_3, val_main_v15, val_main_v16]
  simp only [v13_apply x0 x1 x2 x3 x4 x5 x6 x7 x8 x9 x10 x11 x12 x13]
  exact max_eq_right ((Finset.le_fold_max _).mpr (Or.inl le_rfl))

/-- The gates, the third result. -/
theorem v24_apply (b : Fin 4) (e : Fin 8) :
    val_main_v24 (F := Ideal) x0 x1 x2 x3 x4 (ix2 b e) = (Args.of x0 x1 x2 x3 x4 x5 x6 x7 x8 x9 x10 x11 x12 x13).gate b e := by
  pointwise [val_main_v17, val_main_v18, val_main_v19, val_main_v20, val_main_cst_4, val_main_v21, val_main_v22, val_main_v23, val_main_v24]
  simp only [v13_apply x0 x1 x2 x3 x4 x5 x6 x7 x8 x9 x10 x11 x12 x13, v16_apply x0 x1 x2 x3 x4 x5 x6 x7 x8 x9 x10 x11 x12 x13]
  rfl

/-- The experts' hidden features. -/
theorem v30_apply (e : Fin 8) (b : Fin 4) (n : Fin 2048) (h : Fin 512) :
    val_main_v30 (F := Ideal) x0 x5 x6 (ix4 e b n h) = (Args.of x0 x1 x2 x3 x4 x5 x6 x7 x8 x9 x10 x11 x12 x13).hidE e b n h := by
  pointwise [val_main_v25, val_main_v26, val_main_v27, val_main_v28, val_main_v29, val_main_call1_cst, val_main_call1_v0, val_main_v30]
  rfl

/-- The gated activations. -/
theorem v40_apply (e : Fin 8) (b : Fin 4) (n : Fin 2048) (a : Fin 384) :
    val_main_v40 (F := Ideal) x0 x5 x6 x7 x8 (ix4 e b n a) =
      (Args.of x0 x1 x2 x3 x4 x5 x6 x7 x8 x9 x10 x11 x12 x13).gated e b n a := by
  pointwise [val_main_v31, val_main_v32, val_main_v33, val_main_v34, val_main_v35, val_main_cst_5, val_main_v36, val_main_v37,
    val_main_cst_6, val_main_v38, val_main_v39, val_main_v40]
  simp only [v30_apply x0 x1 x2 x3 x4 x5 x6 x7 x8 x9 x10 x11 x12 x13]
  rfl

/-- The scores. -/
theorem v42_apply (e : Fin 8) (b : Fin 4) (n : Fin 2048) :
    val_main_v42 (F := Ideal) x0 x5 x6 x7 x8 x9 (ix3 e b n) =
      (Args.of x0 x1 x2 x3 x4 x5 x6 x7 x8 x9 x10 x11 x12 x13).score e b n := by
  pointwise [val_main_v41, val_main_v42]
  simp only [v40_apply x0 x1 x2 x3 x4 x5 x6 x7 x8 x9 x10 x11 x12 x13]
  rfl

/-- The largest score of a batch. -/
theorem v45_apply (e : Fin 8) (b : Fin 4) :
    val_main_v45 (F := Ideal) x0 x5 x6 x7 x8 x9 (ix2 e b) = (Args.of x0 x1 x2 x3 x4 x5 x6 x7 x8 x9 x10 x11 x12 x13).top e b := by
  pointwise [val_main_cst_7, val_main_v43, val_main_cst_8, val_main_v44, val_main_v45]
  simp only [v42_apply x0 x1 x2 x3 x4 x5 x6 x7 x8 x9 x10 x11 x12 x13]
  exact max_eq_right ((Finset.le_fold_max _).mpr (Or.inl le_rfl))

/-- The pooled features. -/
theorem v54_apply (e : Fin 8) (b : Fin 4) (h : Fin 512) :
    val_main_v54 (F := Ideal) x0 x5 x6 x7 x8 x9 (ix3 e b h) =
      (Args.of x0 x1 x2 x3 x4 x5 x6 x7 x8 x9 x10 x11 x12 x13).softPooled e b h := by
  pointwise [val_main_v46, val_main_v47, val_main_v48, val_main_v49, val_main_cst_9, val_main_v50, val_main_v51, val_main_v52,
    val_main_v53, val_main_v54]
  simp only [v42_apply x0 x1 x2 x3 x4 x5 x6 x7 x8 x9 x10 x11 x12 x13, v45_apply x0 x1 x2 x3 x4 x5 x6 x7 x8 x9 x10 x11 x12 x13,
    v30_apply x0 x1 x2 x3 x4 x5 x6 x7 x8 x9 x10 x11 x12 x13]
  rfl

/-- The experts' latent vectors. -/
theorem v59_apply (e : Fin 8) (b : Fin 4) (l : Fin 64) :
    val_main_v59 (F := Ideal) x0 x5 x6 x7 x8 x9 x10 x11 (ix3 e b l) =
      (Args.of x0 x1 x2 x3 x4 x5 x6 x7 x8 x9 x10 x11 x12 x13).latent (Args.of x0 x1 x2 x3 x4 x5 x6 x7 x8 x9 x10 x11 x12 x13).softPooled e b l := by
  pointwise [val_main_v55, val_main_v56, val_main_v57, val_main_v58, val_main_call2_cst, val_main_call2_v0, val_main_v59]
  simp only [v54_apply x0 x1 x2 x3 x4 x5 x6 x7 x8 x9 x10 x11 x12 x13]
  rfl

/-- The experts' heads. -/
theorem v63_apply (e : Fin 8) (b : Fin 4) (q : Fin 10) :
    val_main_v63 (F := Ideal) x0 x5 x6 x7 x8 x9 x10 x11 x12 x13 (ix3 e b q) =
      (Args.of x0 x1 x2 x3 x4 x5 x6 x7 x8 x9 x10 x11 x12 x13).head (Args.of x0 x1 x2 x3 x4 x5 x6 x7 x8 x9 x10 x11 x12 x13).softPooled e b q := by
  pointwise [val_main_v60, val_main_v61, val_main_v62, val_main_v63]
  simp only [v59_apply x0 x1 x2 x3 x4 x5 x6 x7 x8 x9 x10 x11 x12 x13]
  rfl

/-- The first result. -/
theorem v69_apply (b : Fin 4) (l : Fin 64) :
    val_main_v69 (F := Ideal) x0 x1 x2 x3 x4 x5 x6 x7 x8 x9 x10 x11 (ix2 b l) =
      (Args.of x0 x1 x2 x3 x4 x5 x6 x7 x8 x9 x10 x11 x12 x13).outLatent (Args.of x0 x1 x2 x3 x4 x5 x6 x7 x8 x9 x10 x11 x12 x13).softPooled b l := by
  pointwise [val_main_v64, val_main_v66, val_main_v67, val_main_v68, val_main_cst_10, val_main_v69]
  simp only [v59_apply x0 x1 x2 x3 x4 x5 x6 x7 x8 x9 x10 x11 x12 x13, v24_apply x0 x1 x2 x3 x4 x5 x6 x7 x8 x9 x10 x11 x12 x13]
  rfl

/-- The second result. -/
theorem v72_apply (b : Fin 4) (q : Fin 10) :
    val_main_v72 (F := Ideal) x0 x1 x2 x3 x4 x5 x6 x7 x8 x9 x10 x11 x12 x13 (ix2 b q) =
      (Args.of x0 x1 x2 x3 x4 x5 x6 x7 x8 x9 x10 x11 x12 x13).outHead (Args.of x0 x1 x2 x3 x4 x5 x6 x7 x8 x9 x10 x11 x12 x13).softPooled b q := by
  pointwise [val_main_v65, val_main_v66, val_main_v70, val_main_v71, val_main_cst_11, val_main_v72]
  simp only [v63_apply x0 x1 x2 x3 x4 x5 x6 x7 x8 x9 x10 x11 x12 x13, v24_apply x0 x1 x2 x3 x4 x5 x6 x7 x8 x9 x10 x11 x12 x13]
  rfl

end Cert.ReferenceIdeal.Hand

end
-- ==== Proof.Softmax.lean ====
/-
  The equation: with finite weights of the scores, pooling by the softmax of the scores, the largest one subtracted, is
  the weighted sum over the sum of the weights. All the scores are then real, so the factor that the subtraction brings
  in cancels.
-/
module

public import proofs.«01_k».proof.Proof.Spec

@[expose] public section

noncomputable section

namespace Cert.Hand

open Idealize.ShloMosaic

/-- The hyperbolic tangent is real everywhere. -/
theorem tanh_real (x : EReal) : ∃ r : ℝ, Ideal.tanh x = (r : EReal) := by
  induction x using EReal.rec with
  | bot => exact ⟨-1, by simp⟩
  | top => exact ⟨1, by simp⟩
  | coe r => exact ⟨_, Ideal.tanh_coe r⟩

/-- The logistic function is real everywhere. -/
theorem logistic_real (x : EReal) : ∃ r : ℝ, Ideal.logistic x = (r : EReal) := by
  induction x using EReal.rec with
  | bot => exact ⟨0, by simp⟩
  | top => exact ⟨1, by simp⟩
  | coe r => exact ⟨_, Ideal.logistic_coe r⟩

/-- A sum of reals. -/
theorem coe_sum {ι : Type} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-- A factor moves into a sum of terms that are not negative. -/
theorem sum_mul_of_nonneg {ι : Type} (s : Finset ι) (f : ι → EReal) (hf : ∀ i, 0 ≤ f i) (c : EReal) :
    (∑ i ∈ s, f i) * c = ∑ i ∈ s, f i * c := by
  classical
  induction s using Finset.induction_on with
  | empty => simp
  | insert i s hi ih =>
    rw [Finset.sum_insert hi, Finset.sum_insert hi, EReal.right_distrib_of_nonneg (hf i) (Finset.sum_nonneg fun j _ => hf j), ih]

/-- The word of minus infinity. -/
theorem ofBits_neg_inf : Ideal.ofBits .f32 0xFF800000#32 = ⊥ := by
  simp [Ideal.ofBits, Ideal.ieee]

/-- The largest of finitely many reals is one. -/
theorem fold_max_real {ι : Type} [Fintype ι] [Nonempty ι] (s : ι → ℝ) :
    ∃ M : ℝ, Finset.univ.fold max (Ideal.ofBits .f32 0xFF800000#32) (fun i => (s i : EReal)) = (M : EReal) := by
  have ht : Finset.univ.fold max (Ideal.ofBits .f32 0xFF800000#32) (fun i => (s i : EReal)) ≠ ⊤ := by
    refine ne_of_lt ((Finset.fold_max_lt _).mpr ⟨?_, fun i _ => EReal.coe_lt_top _⟩)
    rw [ofBits_neg_inf]; exact bot_lt_top
  have hb : Finset.univ.fold max (Ideal.ofBits .f32 0xFF800000#32) (fun i => (s i : EReal)) ≠ ⊥ := by
    obtain ⟨i⟩ := ‹Nonempty ι›
    exact ne_of_gt (lt_of_lt_of_le (EReal.bot_lt_coe (s i)) ((Finset.le_fold_max _).mpr (Or.inr ⟨i, Finset.mem_univ i, le_rfl⟩)))
  exact ⟨_, (EReal.coe_toReal ht hb).symm⟩

/-- Pooling terms that are not negative by the softmax of real scores. -/
theorem softmax_pool {ι : Type} [Fintype ι] [Nonempty ι] (h : ι → EReal) (hh : ∀ i, 0 ≤ h i) (s : ι → ℝ) (M : ℝ) :
    Ideal.div (∑ n, h n * Ideal.exp (s n : EReal)) (∑ n, Ideal.exp (s n : EReal))
      = ∑ n, Ideal.div (Ideal.exp ((s n : EReal) - (M : EReal))) (∑ n', Ideal.exp ((s n' : EReal) - (M : EReal))) * h n := by
  have hZ : 0 < ∑ n, Real.exp (s n) := Finset.sum_pos (fun n _ => Real.exp_pos _) Finset.univ_nonempty
  have hZ' : 0 < ∑ n, Real.exp (s n - M) := Finset.sum_pos (fun n _ => Real.exp_pos _) Finset.univ_nonempty
  have e1 : ∀ n, Ideal.exp ((s n : EReal) - (M : EReal)) = (Real.exp (s n - M) : EReal) := fun n => by
    rw [← EReal.coe_sub, Ideal.exp_coe]
  simp only [e1, Ideal.exp_coe, coe_sum]
  rw [Ideal.div_coe hZ.ne', sum_mul_of_nonneg _ _ (fun n => mul_nonneg (hh n) (EReal.coe_nonneg.mpr (Real.exp_pos _).le))]
  refine Finset.sum_congr rfl fun n _ => ?_
  rw [Ideal.div_coe hZ'.ne', mul_assoc, mul_comm (h n), ← EReal.coe_mul, ← EReal.coe_mul]
  congr 2
  have e2 : ∑ n, Real.exp (s n - M) = (∑ n, Real.exp (s n)) / Real.exp M := by
    rw [Finset.sum_div]
    exact Finset.sum_congr rfl fun n _ => Real.exp_sub _ _
  rw [e2, Real.exp_sub]
  have := (Real.exp_pos M).ne'
  field_simp

namespace Args

variable (A : Args)

/-- Hidden features are not negative. -/
theorem hidE_nonneg (e : Fin 8) (b : Fin 4) (n : Fin 2048) (h : Fin 512) : 0 ≤ A.hidE e b n h := le_max_right _ _

/-- With finite weights a score is real. -/
theorem score_real (hw : ∀ e a, A.wa e a ≠ ⊤ ∧ A.wa e a ≠ ⊥) (e : Fin 8) (b : Fin 4) (n : Fin 2048) :
    ∃ r : ℝ, A.score e b n = (r : EReal) := by
  have h : ∀ a, ∃ r : ℝ, A.gated e b n a * A.wa e a = (r : EReal) := fun a => by
    obtain ⟨t, ht⟩ := tanh_real (∑ h, A.hidE e b n h * A.Va e h a)
    obtain ⟨u, hu⟩ := logistic_real (∑ h, A.hidE e b n h * A.Ua e h a)
    refine ⟨t * u * (A.wa e a).toReal, ?_⟩
    rw [EReal.coe_mul, EReal.coe_mul, EReal.coe_toReal (hw e a).1 (hw e a).2, ← ht, ← hu]
    rfl
  choose r hr using h
  refine ⟨∑ a, r a, ?_⟩
  unfold score
  rw [← coe_sum]
  exact Finset.sum_congr rfl fun a _ => hr a

/-- The two ways to pool agree. -/
theorem pooled_eq (hw : ∀ e a, A.wa e a ≠ ⊤ ∧ A.wa e a ≠ ⊥) : A.pooled = A.softPooled := by
  funext e b h
  choose s hs using A.score_real hw e b
  obtain ⟨M, hM⟩ := fold_max_real s
  have ht : A.top e b = (M : EReal) := by
    unfold top
    rw [← hM]
    exact congrArg (Finset.univ.fold max _) (funext hs)
  unfold pooled softPooled
  simp only [hs, ht]
  exact softmax_pool _ (fun n => A.hidE_nonneg e b n h) s M

end Args

end Cert.Hand

end
-- ==== Proof.Equation.lean ====
/-
  The kernel's three results are the reference's, from the same arguments, when no weight of the scores is infinite.
-/
module

public import proofs.«01_k».proof.Proof.Tail
public import proofs.«01_k».proof.Proof.RefValues
public import proofs.«01_k».proof.Proof.Softmax

@[expose] public section

noncomputable section

namespace Cert.Hand

open Idealize.ShloMosaic Idealize.ShloMosaic.TcCoe

/-- The reference's arguments, read at their indices. -/
def refArgs (m : (ℓ : Loc ReferenceIdeal.nD ReferenceIdeal.τ ReferenceIdeal.sig) → Buf (Elt Ideal) ℓ)
    (c : Dev ReferenceIdeal.nD) : Args :=
  Args.of (m ((c.tc : Thread ReferenceIdeal.nD ReferenceIdeal.τ).loc ReferenceIdeal.main_arg0))
    (m ((c.tc : Thread ReferenceIdeal.nD ReferenceIdeal.τ).loc ReferenceIdeal.main_arg1))
    (m ((c.tc : Thread ReferenceIdeal.nD ReferenceIdeal.τ).loc ReferenceIdeal.main_arg2))
    (m ((c.tc : Thread ReferenceIdeal.nD ReferenceIdeal.τ).loc ReferenceIdeal.main_arg3))
    (m ((c.tc : Thread ReferenceIdeal.nD ReferenceIdeal.τ).loc ReferenceIdeal.main_arg4))
    (m ((c.tc : Thread ReferenceIdeal.nD ReferenceIdeal.τ).loc ReferenceIdeal.main_arg5))
    (m ((c.tc : Thread ReferenceIdeal.nD ReferenceIdeal.τ).loc ReferenceIdeal.main_arg6))
    (m ((c.tc : Thread ReferenceIdeal.nD ReferenceIdeal.τ).loc ReferenceIdeal.main_arg7))
    (m ((c.tc : Thread ReferenceIdeal.nD ReferenceIdeal.τ).loc ReferenceIdeal.main_arg8))
    (m ((c.tc : Thread ReferenceIdeal.nD ReferenceIdeal.τ).loc ReferenceIdeal.main_arg9))
    (m ((c.tc : Thread ReferenceIdeal.nD ReferenceIdeal.τ).loc ReferenceIdeal.main_arg10))
    (m ((c.tc : Thread ReferenceIdeal.nD ReferenceIdeal.τ).loc ReferenceIdeal.main_arg11))
    (m ((c.tc : Thread ReferenceIdeal.nD ReferenceIdeal.τ).loc ReferenceIdeal.main_arg12))
    (m ((c.tc : Thread ReferenceIdeal.nD ReferenceIdeal.τ).loc ReferenceIdeal.main_arg13))

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)
  (c : Dev KernelIdeal.nD) (c' : Dev ReferenceIdeal.nD)

/-- The first result. -/
theorem latent_eq (ha : refArgs m' c' = KernelIdeal.Hand.args m c)
    (hw : ∀ e a, (KernelIdeal.Hand.args m c).wa e a ≠ ⊤ ∧ (KernelIdeal.Hand.args m c).wa e a ≠ ⊥) :
    ReferenceIdeal.Value.res_main_v69 (F := Ideal) m' c' = KernelIdeal.Hand.res12 m c := by
  funext i
  idx_vars i
  refine (congrFun (ReferenceIdeal.Read.val_main_v69_eq (F := Ideal) m' c') _).trans
    ((ReferenceIdeal.Hand.v69_apply _ _ _ _ _ _ _ _ _ _ _ _
      (m' ((c'.tc : Thread ReferenceIdeal.nD ReferenceIdeal.τ).loc ReferenceIdeal.main_arg12))
      (m' ((c'.tc : Thread ReferenceIdeal.nD ReferenceIdeal.τ).loc ReferenceIdeal.main_arg13)) _ _).trans ?_)
  rw [KernelIdeal.Hand.res12_apply, Args.pooled_eq _ hw, ← ha]
  rfl

/-- The second result. -/
theorem head_eq (ha : refArgs m' c' = KernelIdeal.Hand.args m c)
    (hw : ∀ e a, (KernelIdeal.Hand.args m c).wa e a ≠ ⊤ ∧ (KernelIdeal.Hand.args m c).wa e a ≠ ⊥) :
    ReferenceIdeal.Value.res_main_v72 (F := Ideal) m' c' = KernelIdeal.Hand.res13 m c := by
  funext i
  idx_vars i
  refine (congrFun (ReferenceIdeal.Read.val_main_v72_eq (F := Ideal) m' c') _).trans
    ((ReferenceIdeal.Hand.v72_apply _ _ _ _ _ _ _ _ _ _ _ _ _ _ _ _).trans ?_)
  rw [KernelIdeal.Hand.res13_apply, Args.pooled_eq _ hw, ← ha]
  rfl

/-- The third result. -/
theorem gate_eq (ha : refArgs m' c' = KernelIdeal.Hand.args m c) :
    ReferenceIdeal.Value.res_main_v24 (F := Ideal) m' c' = KernelIdeal.Hand.res14 m c := by
  funext i
  idx_vars i
  refine (congrFun (ReferenceIdeal.Read.val_main_v24_eq (F := Ideal) m' c') _).trans ?_
  refine (ReferenceIdeal.Hand.v24_apply _ _ _ _ _ (m' ((c'.tc : Thread ReferenceIdeal.nD ReferenceIdeal.τ).loc ReferenceIdeal.main_arg5))
    (m' ((c'.tc : Thread ReferenceIdeal.nD ReferenceIdeal.τ).loc ReferenceIdeal.main_arg6))
    (m' ((c'.tc : Thread ReferenceIdeal.nD ReferenceIdeal.τ).loc ReferenceIdeal.main_arg7))
    (m' ((c'.tc : Thread ReferenceIdeal.nD ReferenceIdeal.τ).loc ReferenceIdeal.main_arg8))
    (m' ((c'.tc : Thread ReferenceIdeal.nD ReferenceIdeal.τ).loc ReferenceIdeal.main_arg9))
    (m' ((c'.tc : Thread ReferenceIdeal.nD ReferenceIdeal.τ).loc ReferenceIdeal.main_arg10))
    (m' ((c'.tc : Thread ReferenceIdeal.nD ReferenceIdeal.τ).loc ReferenceIdeal.main_arg11))
    (m' ((c'.tc : Thread ReferenceIdeal.nD ReferenceIdeal.τ).loc ReferenceIdeal.main_arg12))
    (m' ((c'.tc : Thread ReferenceIdeal.nD ReferenceIdeal.τ).loc ReferenceIdeal.main_arg13)) _ _).trans ?_
  rw [KernelIdeal.Hand.res14_apply, ← ha]
  rfl

end Cert.Hand

end
-- ==== Proof.Pre.lean ====
/-
  What the precondition says: no weight of the scores is infinite.
-/
module

public import proofs.«01_k».proof.Pre_finite_wa
public import proofs.«01_k».proof.Proof.Softmax
public import Idealize.ShloMosaic.Lib.ReduceAll
public import Idealize.ShloMosaic.Lib.Pointwise

@[expose] public section

noncomputable section

namespace Cert.Pre_finite_wa

open Idealize.ShloMosaic Cert.Hand

/-- The side conditions of the precondition's operations. -/
theorem facts : Facts := ⟨by decide, by decide, by decide⟩

/-- The word of infinity. -/
theorem ofBits_inf : Ideal.ofBits .f32 0x7F800000#32 = ⊤ := by
  simp [Ideal.ofBits, Ideal.ieee]

/-- Both comparisons hold only of a number that is not infinite. -/
theorem finite_of_one (x : EReal) (h : IntOp.andi (Ideal.cmp .ogt x (Ideal.ofBits .f32 0xFF800000#32))
    (Ideal.cmp .olt x (Ideal.ofBits .f32 0x7F800000#32)) = 1#1) : x ≠ ⊤ ∧ x ≠ ⊥ := by
  rw [ofBits_inf, ofBits_neg_inf] at h
  constructor
  · rintro rfl
    simp [Ideal.cmp, IntOp.andi] at h
  · rintro rfl
    simp [Ideal.cmp, IntOp.andi] at h

/-- The precondition, at one weight. -/
theorem finite [Facts] (x0 : FVec Ideal S4x2048x2048 .f32) (x1 : FVec Ideal S2048x512 .f32) (x2 : FVec Ideal S512 .f32)
    (x3 : FVec Ideal S512x8 .f32) (x4 : FVec Ideal S8 .f32) (x5 : FVec Ideal S8x2048x512 .f32)
    (x6 : FVec Ideal S8x512 .f32) (x7 x8 : FVec Ideal S8x512x384 .f32) (x9 : FVec Ideal S8x384x1 .f32)
    (x10 : FVec Ideal S8x512x64 .f32) (x11 : FVec Ideal S8x64 .f32) (x12 : FVec Ideal S8x64x10 .f32)
    (x13 : FVec Ideal S8x10 .f32)
    (h : fn (F := Ideal) x0 x1 x2 x3 x4 x5 x6 x7 x8 x9 x10 x11 x12 x13 = fun _ => 1#1) (e : Fin 8) (a : Fin 384) :
    x9 (ix3 e a 0) ≠ ⊤ ∧ x9 (ix3 e a 0) ≠ ⊥ := by
  haveI : Subsingleton S_.Idx := ⟨fun p q => funext fun i => i.elim0⟩
  exact finite_of_one _ (Host.reduce_andi_all _ _ _ _ (fun i => i.elim0) (congrFun h fun i => i.elim0) (ix3 e a 0))

end Cert.Pre_finite_wa

end
-- ==== Proof.lean ====
/-
  The proof of the certificate: each program ends, keeps its arguments and leaves every counter at zero; the
  kernel and its idealization print the same operations; and over the extended reals the kernel's three results are the
  reference's, when no weight of the scores is infinite.
-/
module

public import proofs.«01_k».proof.Defs
public import proofs.«01_k».proof.Proof.Gen.Kernel
public import proofs.«01_k».proof.Proof.Gen.Kernel.Skeleton
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Points
public import proofs.«01_k».proof.Proof.Bits
public import proofs.«01_k».proof.Proof.Result
public import proofs.«01_k».proof.Proof.Equation
public import proofs.«01_k».proof.Proof.Pre
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem

/-- The reference ends, keeps its arguments and leaves every counter at zero. -/
theorem frame_reference : Cert.quiescent_ReferenceIdeal (hReferenceIdeal := Cert.ReferenceIdeal.Gen.facts) :=
  fun m g _ => (θ_run Cert.ReferenceIdeal.defs _ _).mono (fun r h => ⟨fun c => (h c).2.2.2,
    sem_eq_zero_of_no_sems (by decide) r.2⟩) (Cert.ReferenceIdeal.Value.run (F := Ideal) m g)

/-- From memories that hold the same arguments, the kernel and the reference end with the same three results, when no
weight of the scores is infinite. -/
theorem algebraic : Cert.algebraic_KernelIdeal_ReferenceIdeal_pre_finite_wa (hKernelIdeal := Cert.KernelIdeal.Gen.facts)
    (hReferenceIdeal := Cert.ReferenceIdeal.Gen.facts) (hPre_finite_wa := Cert.Pre_finite_wa.facts) := by
  intro m g m' g' hpre heq
  have ha : ∀ c, Cert.Hand.refArgs m' c = Cert.KernelIdeal.Hand.args m c := fun c => by
    obtain ⟨h0, h1, h2, h3, h4, h5, h6, h7, h8, h9, h10, h11, h12, h13⟩ := heq c
    unfold Cert.Hand.refArgs
    rw [h0, h1, h2, h3, h4, h5, h6, h7, h8, h9, h10, h11, h12, h13]
    rfl
  have hw : ∀ c e a, (Cert.KernelIdeal.Hand.args m c).wa e a ≠ ⊤ ∧ (Cert.KernelIdeal.Hand.args m c).wa e a ≠ ⊥ := fun c e a =>
    haveI := Cert.Pre_finite_wa.facts
    Cert.Pre_finite_wa.finite _ _ _ _ _ _ _ _ _ _ _ _ _ _ (hpre c) e a
  refine ⟨fun c => Cert.KernelIdeal.Hand.res12 m c, fun c => Cert.KernelIdeal.Hand.res13 m c,
    fun c => Cert.KernelIdeal.Hand.res14 m c, Cert.KernelIdeal.Hand.run_values (F := Ideal) m g, ?_⟩
  refine (θ_run Cert.ReferenceIdeal.defs _ _).mono (fun r h c => ?_) (Cert.ReferenceIdeal.Value.run (F := Ideal) m' g')
  obtain ⟨h0, h1, h2, hargs⟩ := h c
  exact ⟨h0.trans (Cert.Hand.latent_eq m m' c c (ha c) (hw c)), h1.trans (Cert.Hand.head_eq m m' c c (ha c) (hw c)),
    h2.trans (Cert.Hand.gate_eq m m' c c (ha c)), hargs⟩

/-- All the claims. -/
theorem claim : Cert.Claim := ⟨Cert.Kernel.Gen.facts, Cert.KernelIdeal.Gen.facts, Cert.ReferenceIdeal.Gen.facts,
  Cert.Pre_finite_wa.facts, frame_kernel,
  fun m g _ => Cert.KernelIdeal.Hand.run_frame (F := Ideal) m g, fun m g _ => Cert.KernelIdeal.Hand.run_frame (F := Ideal) m g,
  frame_reference, fun m g _ => frame_reference m g trivial, trivial, algebraic⟩

end Cert.Proof

end
